-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mu_step" .f32 0x3FAAAAAB#32 ((4 / 3 : ℝ) : EReal)
  ∧ IdealRules.named_const.Statement Cert.KernelIdeal.κ "inv_sigma" .f32 0x3F4CCCCD#32 ((4 / 5 : ℝ) : EReal)

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S2x1024x6x3 : Shape := ⟨4, ![2, 1024, 6, 3]⟩
abbrev S2x1024 : Shape := ⟨2, ![2, 1024]⟩
abbrev S2x1024x6 : Shape := ⟨3, ![2, 1024, 6]⟩
abbrev S128x3 : Shape := ⟨2, ![128, 3]⟩
abbrev S128x1040 : Shape := ⟨2, ![128, 1040]⟩
abbrev S128 : Shape := ⟨1, ![128]⟩
abbrev S16x66 : Shape := ⟨2, ![16, 66]⟩
abbrev S16 : Shape := ⟨1, ![16]⟩
abbrev S_ : Shape := ⟨0, ![]⟩

class Facts : Prop where
  bcast_S_S2x1024 : S_.BroadcastsInDim S2x1024 (![] : Fin 0 → Fin S2x1024.rank)
  bcast_S_S2x1024x6x3 : S_.BroadcastsInDim S2x1024x6x3 (![] : Fin 0 → Fin S2x1024x6x3.rank)
  bcast_S_S2x1024x6 : S_.BroadcastsInDim S2x1024x6 (![] : Fin 0 → Fin S2x1024x6.rank)

variable [Facts]

def fn_part1 {F : FTy → Type} [FloatOps F] (main_arg6 : FVec F S2x1024 .f32) (main_arg7 : FVec F S2x1024 .f32) (main_arg8 : IVec S2x1024 32) (main_v7 : IVec S2x1024x6x3 1) (main_v9 : IVec S2x1024 1) (main_v10 : IVec S2x1024 1) (main_v12 : IVec S2x1024 1) (main_v14 : IVec S2x1024x6 1) (main_v16 : IVec S2x1024 1) (main_cst_4 : FVec F S_ .f32) : IVec S2x1024x6x3 1 × IVec S2x1024 1 × IVec S2x1024 1 × IVec S2x1024 1 × IVec S2x1024x6 1 × IVec S2x1024 1 × IVec S2x1024 1 × IVec S2x1024 1 × IVec S2x1024 1 :=
  let main_v17 : FVec F S2x1024 .f32 := broadcastInDim S2x1024 ![] bcast_S_S2x1024 main_cst_4
  let main_v18 : IVec S2x1024 1 := cmpf .oeq main_arg6 main_v17
  let main_cst_5 : FVec F S_ .f32 := constant S_ .f32 0x00000000#32
  let main_v19 : FVec F S2x1024 .f32 := broadcastInDim S2x1024 ![] bcast_S_S2x1024 main_cst_5
  let main_v20 : IVec S2x1024 1 := cmpf .oeq main_arg7 main_v19
  let main_c_6 : IVec S_ 32 := constantI S_ 32 0#32
  let main_v21 : IVec S2x1024 32 := broadcastInDim S2x1024 ![] bcast_S_S2x1024 main_c_6
  let main_v22 : IVec S2x1024 1 := cmpi .sge main_arg8 main_v21
  let main_c_7 : IVec S_ 32 := constantI S_ 32 3#32
  let main_v23 : IVec S2x1024 32 := broadcastInDim S2x1024 ![] bcast_S_S2x1024 main_c_7
  let main_v24 : IVec S2x1024 1 := cmpi .slt main_arg8 main_v23
  let main_v25 : IVec S2x1024 1 := andi main_v22 main_v24
  (main_v7, main_v9, main_v10, main_v12, main_v14, main_v16, main_v18, main_v20, main_v25)

def fn {F : FTy → Type} [FloatOps F] (main_arg0 : FVec F S2x1024x6x3 .f32) (main_arg1 : FVec F S2x1024 .f32) (main_arg2 : IVec S2x1024 32) (main_arg3 : IVec S2x1024 32) (main_arg4 : FVec F S2x1024x6 .f32) (main_arg5 : FVec F S2x1024 .f32) (main_arg6 : FVec F S2x1024 .f32) (main_arg7 : FVec F S2x1024 .f32) (main_arg8 : IVec S2x1024 32) (main_arg9 : FVec F S128x3 .f32) (main_arg10 : FVec F S128x1040 .f32) (main_arg11 : FVec F S128 .f32) (main_arg12 : FVec F S128 .f32) (main_arg13 : FVec F S128 .f32) (main_arg14 : FVec F S128 .f32) (main_arg15 : FVec F S16x66 .f32) (main_arg16 : FVec F S16 .f32) : IVec S2x1024x6x3 1 × IVec S2x1024 1 × IVec S2x1024 1 × IVec S2x1024 1 × IVec S2x1024x6 1 × IVec S2x1024 1 × IVec S2x1024 1 × IVec S2x1024 1 × IVec S2x1024 1 :=
  let main_v0 : IVec S2x1024 32 := iotaInDim S2x1024 32 0
  let main_c : IVec S_ 32 := constantI S_ 32 1024#32
  let main_v1 : IVec S2x1024 32 := broadcastInDim S2x1024 ![] bcast_S_S2x1024 main_c
  let main_v2 : IVec S2x1024 32 := muli main_v0 main_v1
  let main_v3 : IVec S2x1024 32 := iotaInDim S2x1024 32 1
  let main_v4 : IVec S2x1024 32 := addi main_v2 main_v3
  let main_v5 : FVec F S2x1024x6x3 .f32 := Host.absf main_arg0
  let main_cst : FVec F S_ .f32 := constant S_ .f32 0x7F800000#32
  let main_v6 : FVec F S2x1024x6x3 .f32 := broadcastInDim S2x1024x6x3 ![] bcast_S_S2x1024x6x3 main_cst
  let main_v7 : IVec S2x1024x6x3 1 := cmpf .olt main_v5 main_v6
  let main_cst_0 : FVec F S_ .f32 := constant S_ .f32 0x3F800000#32
  let main_v8 : FVec F S2x1024 .f32 := broadcastInDim S2x1024 ![] bcast_S_S2x1024 main_cst_0
  let main_v9 : IVec S2x1024 1 := cmpf .oeq main_arg1 main_v8
  let main_v10 : IVec S2x1024 1 := cmpi .eq main_arg2 main_v4
  let main_c_1 : IVec S_ 32 := constantI S_ 32 0#32
  let main_v11 : IVec S2x1024 32 := broadcastInDim S2x1024 ![] bcast_S_S2x1024 main_c_1
  let main_v12 : IVec S2x1024 1 := cmpi .eq main_arg3 main_v11
  let main_cst_2 : FVec F S_ .f32 := constant S_ .f32 0x3F800000#32
  let main_v13 : FVec F S2x1024x6 .f32 := broadcastInDim S2x1024x6 ![] bcast_S_S2x1024x6 main_cst_2
  let main_v14 : IVec S2x1024x6 1 := cmpf .oeq main_arg4 main_v13
  let main_cst_3 : FVec F S_ .f32 := constant S_ .f32 0x3F800000#32
  let main_v15 : FVec F S2x1024 .f32 := broadcastInDim S2x1024 ![] bcast_S_S2x1024 main_cst_3
  let main_v16 : IVec S2x1024 1 := cmpf .oeq main_arg5 main_v15
  let main_cst_4 : FVec F S_ .f32 := constant S_ .f32 0x00000000#32
  fn_part1 (F := F) main_arg6 main_arg7 main_arg8 main_v7 main_v9 main_v10 main_v12 main_v14 main_v16 main_cst_4
-- ==== Kernel.lean ====
abbrev S2x1024x6x3 : Shape := ⟨4, ![2, 1024, 6, 3]⟩
abbrev S2x1024 : Shape := ⟨2, ![2, 1024]⟩
abbrev S2x1024x6 : Shape := ⟨3, ![2, 1024, 6]⟩
abbrev S128x3 : Shape := ⟨2, ![128, 3]⟩
abbrev S128x1040 : Shape := ⟨2, ![128, 1040]⟩
abbrev S128 : Shape := ⟨1, ![128]⟩
abbrev S16x66 : Shape := ⟨2, ![16, 66]⟩
abbrev S16 : Shape := ⟨1, ![16]⟩
abbrev S2x1024x18 : Shape := ⟨3, ![2, 1024, 18]⟩
abbrev S2x18x1024 : Shape := ⟨3, ![2, 18, 1024]⟩
abbrev S2x16x64x1 : Shape := ⟨4, ![2, 16, 64, 1]⟩
abbrev S128x1024 : Shape := ⟨2, ![128, 1024]⟩
abbrev S128x8x8x16 : Shape := ⟨4, ![128, 8, 8, 16]⟩
abbrev S128x7x7x16 : Shape := ⟨4, ![128, 7, 7, 16]⟩
abbrev S128x784 : Shape := ⟨2, ![128, 784]⟩
abbrev S66x16 : Shape := ⟨2, ![66, 16]⟩
abbrev S1x16 : Shape := ⟨2, ![1, 16]⟩
abbrev S128x16 : Shape := ⟨2, ![128, 16]⟩
abbrev S16x128 : Shape := ⟨2, ![16, 128]⟩
abbrev S66x128 : Shape := ⟨2, ![66, 128]⟩
abbrev S784x128 : Shape := ⟨2, ![784, 128]⟩
abbrev S850x128 : Shape := ⟨2, ![850, 128]⟩
abbrev S3x128 : Shape := ⟨2, ![3, 128]⟩
abbrev S1x128 : Shape := ⟨2, ![1, 128]⟩
abbrev S2x1024x128 : Shape := ⟨3, ![2, 1024, 128]⟩
abbrev S2x30720x128 : Shape := ⟨3, ![2, 30720, 128]⟩
abbrev S2x16x64x30 : Shape := ⟨4, ![2, 16, 64, 30]⟩
abbrev S1x18x1024 : Shape := ⟨3, ![1, 18, 1024]⟩
abbrev S1x64x18 : Shape := ⟨3, ![1, 64, 18]⟩
abbrev S1x1x64x1 : Shape := ⟨4, ![1, 1, 64, 1]⟩
abbrev S1x64x128 : Shape := ⟨3, ![1, 64, 128]⟩
abbrev S1x1920x128 : Shape := ⟨3, ![1, 1920, 128]⟩
abbrev S1x1x64x30 : Shape := ⟨4, ![1, 1, 64, 30]⟩
abbrev S18x1024 : Shape := ⟨2, ![18, 1024]⟩
abbrev S3x1024 : Shape := ⟨2, ![3, 1024]⟩
abbrev S1x1024 : Shape := ⟨2, ![1, 1024]⟩
abbrev S21x1024 : Shape := ⟨2, ![21, 1024]⟩
abbrev S64x18 : Shape := ⟨2, ![64, 18]⟩
abbrev S64x3 : Shape := ⟨2, ![64, 3]⟩
abbrev S64x1 : Shape := ⟨2, ![64, 1]⟩
abbrev S64x1024 : Shape := ⟨2, ![64, 1024]⟩
abbrev S64x30 : Shape := ⟨2, ![64, 30]⟩
abbrev S64 : Shape := ⟨1, ![64]⟩
abbrev S1x1920 : Shape := ⟨2, ![1, 1920]⟩
abbrev S30x1 : Shape := ⟨2, ![30, 1]⟩
abbrev S30x1920 : Shape := ⟨2, ![30, 1920]⟩
abbrev S64x1920 : Shape := ⟨2, ![64, 1920]⟩
abbrev S1920 : Shape := ⟨1, ![1920]⟩
abbrev S1024x1 : Shape := ⟨2, ![1024, 1]⟩
abbrev S1024x1920 : Shape := ⟨2, ![1024, 1920]⟩
abbrev S21x1920 : Shape := ⟨2, ![21, 1920]⟩
abbrev S16x1 : Shape := ⟨2, ![16, 1]⟩
abbrev S3x1920 : Shape := ⟨2, ![3, 1920]⟩
abbrev S16x1920 : Shape := ⟨2, ![16, 1920]⟩
abbrev S66x1 : Shape := ⟨2, ![66, 1]⟩
abbrev S66x1920 : Shape := ⟨2, ![66, 1920]⟩
abbrev S850x1920 : Shape := ⟨2, ![850, 1920]⟩
abbrev S1920x128 : Shape := ⟨2, ![1920, 128]⟩
abbrev S1920x1 : Shape := ⟨2, ![1920, 1]⟩
abbrev S64x128 : Shape := ⟨2, ![64, 128]⟩

abbrev nBuf : Space → Nat
  | .hbm => 41
  | .vmem => 18
  | .smem => 0
  | _ => 0

abbrev bufTy : (tb : Table) → Fin (tcTables nBuf tb) → BufTy
  | .hbm, ⟨0, _⟩ => ⟨S2x1024x6x3, .f32⟩
  | .hbm, ⟨1, _⟩ => ⟨S2x1024, .f32⟩
  | .hbm, ⟨2, _⟩ => ⟨S2x1024, .i32⟩
  | .hbm, ⟨3, _⟩ => ⟨S2x1024, .i32⟩
  | .hbm, ⟨4, _⟩ => ⟨S2x1024x6, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .i32⟩
  | .hbm, ⟨9, _⟩ => ⟨S128x3, .f32⟩
  | .hbm, ⟨10, _⟩ => ⟨S128x1040, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S16x66, .f32⟩
  | .hbm, ⟨16, _⟩ => ⟨S16, .f32⟩
  | .hbm, ⟨17, _⟩ => ⟨S2x1024x18, .f32⟩
  | .hbm, ⟨18, _⟩ => ⟨S2x18x1024, .f32⟩
  | .hbm, ⟨19, _⟩ => ⟨S2x16x64x1, .i32⟩
  | .hbm, ⟨20, _⟩ => ⟨S128x1024, .f32⟩
  | .hbm, ⟨21, _⟩ => ⟨S128x8x8x16, .f32⟩
  | .hbm, ⟨22, _⟩ => ⟨S128x7x7x16, .f32⟩
  | .hbm, ⟨23, _⟩ => ⟨S128x784, .f32⟩
  | .hbm, ⟨24, _⟩ => ⟨S66x16, .f32⟩
  | .hbm, ⟨25, _⟩ => ⟨S1x16, .f32⟩
  | .hbm, ⟨26, _⟩ => ⟨S66x16, .f32⟩
  | .hbm, ⟨27, _⟩ => ⟨S66x16, .f32⟩
  | .hbm, ⟨28, _⟩ => ⟨S128x16, .f32⟩
  | .hbm, ⟨29, _⟩ => ⟨S16x128, .f32⟩
  | .hbm, ⟨30, _⟩ => ⟨S66x128, .f32⟩
  | .hbm, ⟨31, _⟩ => ⟨S784x128, .f32⟩
  | .hbm, ⟨32, _⟩ => ⟨S850x128, .f32⟩
  | .hbm, ⟨33, _⟩ => ⟨S3x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S2x1024x128, .f32⟩
  | .hbm, ⟨39, _⟩ => ⟨S2x30720x128, .f32⟩
  | .hbm, ⟨40, _⟩ => ⟨S2x16x64x30, .i32⟩
  | .local _ .vmem, ⟨0, _⟩ => ⟨S1x18x1024, .f32⟩
  | .local _ .vmem, ⟨1, _⟩ => ⟨S1x18x1024, .f32⟩
  | .local _ .vmem, ⟨2, _⟩ => ⟨S1x64x18, .f32⟩
  | .local _ .vmem, ⟨3, _⟩ => ⟨S1x64x18, .f32⟩
  | .local _ .vmem, ⟨4, _⟩ => ⟨S1x1x64x1, .i32⟩
  | .local _ .vmem, ⟨5, _⟩ => ⟨S1x1x64x1, .i32⟩
  | .local _ .vmem, ⟨6, _⟩ => ⟨S850x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x64x128, .f32⟩
  | .local _ .vmem, ⟨13, _⟩ => ⟨S1x64x128, .f32⟩
  | .local _ .vmem, ⟨14, _⟩ => ⟨S1x1920x128, .f32⟩
  | .local _ .vmem, ⟨15, _⟩ => ⟨S1x1920x128, .f32⟩
  | .local _ .vmem, ⟨16, _⟩ => ⟨S1x1x64x30, .i32⟩
  | .local _ .vmem, ⟨17, _⟩ => ⟨S1x1x64x30, .i32⟩
  | _, _ => ⟨S2x1024x6x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_v0_0 : Ref sig .tc := ⟨.hbm, 38, rfl⟩
abbrev main_v0_1 : Ref sig .tc := ⟨.hbm, 39, rfl⟩
abbrev main_v0_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_8 : BitVec 32 := 0#32
  let c30_i32 : BitVec 32 := 30#32
  let v75 : BitVec 32 := Scalar.addi c0_i32_8 c30_i32
  let c1_i32 : BitVec 32 := 1#32
  ⟨c0_i32_8, v75, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x18x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S850x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1920x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x64x30 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "inv_sigma" => some ((4 / 5 : ℝ) : EReal)
  | "mu_step" => some ((4 / 3 : ℝ) : EReal)
  | _ => none
-- ==== ReferenceIdeal.lean ====
abbrev S2x1024x6x3 : Shape := ⟨4, ![2, 1024, 6, 3]⟩
abbrev S2x1024 : Shape := ⟨2, ![2, 1024]⟩
abbrev S2x1024x6 : Shape := ⟨3, ![2, 1024, 6]⟩
abbrev S128x3 : Shape := ⟨2, ![128, 3]⟩
abbrev S128x1040 : Shape := ⟨2, ![128, 1040]⟩
abbrev S128 : Shape := ⟨1, ![128]⟩
abbrev S16x66 : Shape := ⟨2, ![16, 66]⟩
abbrev S16 : Shape := ⟨1, ![16]⟩
abbrev S2x1024x1x3 : Shape := ⟨4, ![2, 1024, 1, 3]⟩
abbrev S2x1024x3 : Shape := ⟨3, ![2, 1024, 3]⟩
abbrev S2x1024x1 : Shape := ⟨3, ![2, 1024, 1]⟩
abbrev S_ : Shape := ⟨0, ![]⟩
abbrev S2x1024x8x3 : Shape := ⟨4, ![2, 1024, 8, 3]⟩
abbrev S2x1024x8 : Shape := ⟨3, ![2, 1024, 8]⟩
abbrev S2x1x1024 : Shape := ⟨3, ![2, 1, 1024]⟩
abbrev S2x1024x1024 : Shape := ⟨3, ![2, 1024, 1024]⟩
abbrev S2x1x1024x3 : Shape := ⟨4, ![2, 1, 1024, 3]⟩
abbrev S2x1024x1024x3 : Shape := ⟨4, ![2, 1024, 1024, 3]⟩
abbrev S2x1024x30 : Shape := ⟨3, ![2, 1024, 30]⟩
abbrev S2x1024x24 : Shape := ⟨3, ![2, 1024, 24]⟩
abbrev S2x30720 : Shape := ⟨2, ![2, 30720]⟩
abbrev S2x30720x1 : Shape := ⟨3, ![2, 30720, 1]⟩
abbrev S2x30720x24 : Shape := ⟨3, ![2, 30720, 24]⟩
abbrev S2x30720x24x1 : Shape := ⟨4, ![2, 30720, 24, 1]⟩
abbrev S1 : Shape := ⟨1, ![1]⟩
abbrev S1x1x1x1 : Shape := ⟨4, ![1, 1, 1, 1]⟩
abbrev S2x1024x30x24 : Shape := ⟨4, ![2, 1024, 30, 24]⟩
abbrev S2x1024x30x8x3 : Shape := ⟨5, ![2, 1024, 30, 8, 3]⟩
abbrev S2x1024x1x8x1x3 : Shape := ⟨6, ![2, 1024, 1, 8, 1, 3]⟩
abbrev S2x1024x30x1x8x3 : Shape := ⟨6, ![2, 1024, 30, 1, 8, 3]⟩
abbrev S2x1024x30x8x8x3 : Shape := ⟨6, ![2, 1024, 30, 8, 8, 3]⟩
abbrev S2x1024x30x8x8 : Shape := ⟨5, ![2, 1024, 30, 8, 8]⟩
abbrev S15 : Shape := ⟨1, ![15]⟩
abbrev S1x1x1x1x1x16 : Shape := ⟨6, ![1, 1, 1, 1, 1, 16]⟩
abbrev S2x1024x30x8x8x1 : Shape := ⟨6, ![2, 1024, 30, 8, 8, 1]⟩
abbrev S2x1024x30x8x8x16 : Shape := ⟨6, ![2, 1024, 30, 8, 8, 16]⟩
abbrev S2x30720x8 : Shape := ⟨3, ![2, 30720, 8]⟩
abbrev S2x30720x8x1 : Shape := ⟨4, ![2, 30720, 8, 1]⟩
abbrev S2x1024x30x8 : Shape := ⟨4, ![2, 1024, 30, 8]⟩
abbrev S2x1024x1x8x1x1 : Shape := ⟨6, ![2, 1024, 1, 8, 1, 1]⟩
abbrev S2x1024x30x1x8x1 : Shape := ⟨6, ![2, 1024, 30, 1, 8, 1]⟩
abbrev S2x1024x30x1024 : Shape := ⟨4, ![2, 1024, 30, 1024]⟩
abbrev S2x1024x1024x1 : Shape := ⟨4, ![2, 1024, 1024, 1]⟩
abbrev S2x1024x30x1 : Shape := ⟨4, ![2, 1024, 30, 1]⟩
abbrev S1x1x1x66 : Shape := ⟨4, ![1, 1, 1, 66]⟩
abbrev S2x1024x30x66 : Shape := ⟨4, ![2, 1024, 30, 66]⟩
abbrev S66x16 : Shape := ⟨2, ![66, 16]⟩
abbrev S2x1024x30x16 : Shape := ⟨4, ![2, 1024, 30, 16]⟩
abbrev S1x1x1x16 : Shape := ⟨4, ![1, 1, 1, 16]⟩
abbrev S2x1024x30x1040 : Shape := ⟨4, ![2, 1024, 30, 1040]⟩
abbrev S1040x128 : Shape := ⟨2, ![1040, 128]⟩
abbrev S2x1024x30x128 : Shape := ⟨4, ![2, 1024, 30, 128]⟩
abbrev S1x1x1x128 : Shape := ⟨4, ![1, 1, 1, 128]⟩
abbrev S1x1x3 : Shape := ⟨3, ![1, 1, 3]⟩
abbrev S3x128 : Shape := ⟨2, ![3, 128]⟩
abbrev S2x1024x128 : Shape := ⟨3, ![2, 1024, 128]⟩
abbrev S1x1x128 : Shape := ⟨3, ![1, 1, 128]⟩
abbrev S2x30720x128 : Shape := ⟨3, ![2, 30720, 128]⟩
abbrev S2x16x64x30 : Shape := ⟨4, ![2, 16, 64, 30]⟩

abbrev nBuf : Space → Nat
  | .hbm => 401
  | .vmem => 0
  | .smem => 0
  | _ => 0

abbrev hbmTy0_0 (i : Nat) : BufTy := match i % 128 with
  | 0 => ⟨S2x1024x6x3, .f32⟩
  | 1 => ⟨S2x1024, .f32⟩
  | 2 => ⟨S2x1024, .i32⟩
  | 3 => ⟨S2x1024, .i32⟩
  | 4 => ⟨S2x1024x6, .f32⟩
  | 5 => ⟨S2x1024, .f32⟩
  | 6 => ⟨S2x1024, .f32⟩
  | 7 => ⟨S2x1024, .f32⟩
  | 8 => ⟨S2x1024, .i32⟩
  | 9 => ⟨S128x3, .f32⟩
  | 10 => ⟨S128x1040, .f32⟩
  | 11 => ⟨S128, .f32⟩
  | 12 => ⟨S128, .f32⟩
  | 13 => ⟨S128, .f32⟩
  | 14 => ⟨S128, .f32⟩
  | 15 => ⟨S16x66, .f32⟩
  | 16 => ⟨S16, .f32⟩
  | 17 => ⟨S2x1024x1x3, .f32⟩
  | 18 => ⟨S2x1024x3, .f32⟩
  | 19 => ⟨S2x1024x1x3, .f32⟩
  | 20 => ⟨S2x1024x3, .f32⟩
  | 21 => ⟨S2x1024x1x3, .f32⟩
  | 22 => ⟨S2x1024x3, .f32⟩
  | 23 => ⟨S2x1024x3, .f32⟩
  | 24 => ⟨S2x1024x3, .f32⟩
  | 25 => ⟨S2x1024x1, .f32⟩
  | 26 => ⟨S2x1024x1, .f32⟩
  | 27 => ⟨S2x1024x1, .f32⟩
  | 28 => ⟨S2x1024x1, .f32⟩
  | 29 => ⟨S2x1024x1, .f32⟩
  | 30 => ⟨S2x1024x1, .f32⟩
  | 31 => ⟨S2x1024x1, .f32⟩
  | 32 => ⟨S2x1024x1, .f32⟩
  | 33 => ⟨S2x1024x1, .f32⟩
  | 34 => ⟨S2x1024x1, .f32⟩
  | 35 => ⟨S2x1024x1, .f32⟩
  | 36 => ⟨S2x1024x1, .f32⟩
  | 37 => ⟨S2x1024x1, .f32⟩
  | 38 => ⟨S2x1024x1, .f32⟩
  | 39 => ⟨S2x1024x1, .f32⟩
  | 40 => ⟨S2x1024x3, .f32⟩
  | 41 => ⟨S_, .f32⟩
  | 42 => ⟨S2x1024x3, .f32⟩
  | 43 => ⟨S2x1024x3, .f32⟩
  | 44 => ⟨S_, .f32⟩
  | 45 => ⟨S2x1024x3, .f32⟩
  | 46 => ⟨S2x1024x3, .f32⟩
  | 47 => ⟨S2x1024x3, .f32⟩
  | 48 => ⟨S_, .f32⟩
  | 49 => ⟨S2x1024x3, .f32⟩
  | 50 => ⟨S2x1024x3, .f32⟩
  | 51 => ⟨S2x1024x3, .f32⟩
  | 52 => ⟨S2x1024x3, .f32⟩
  | 53 => ⟨S2x1024x1x3, .f32⟩
  | 54 => ⟨S2x1024x3, .f32⟩
  | 55 => ⟨S2x1024x1x3, .f32⟩
  | 56 => ⟨S2x1024x3, .f32⟩
  | 57 => ⟨S2x1024x1x3, .f32⟩
  | 58 => ⟨S2x1024x3, .f32⟩
  | 59 => ⟨S2x1024x1x3, .f32⟩
  | 60 => ⟨S2x1024x3, .f32⟩
  | 61 => ⟨S2x1024x3, .f32⟩
  | 62 => ⟨S2x1024x3, .f32⟩
  | 63 => ⟨S2x1024x1, .f32⟩
  | 64 => ⟨S2x1024x1, .f32⟩
  | 65 => ⟨S2x1024x1, .f32⟩
  | 66 => ⟨S2x1024x1, .f32⟩
  | 67 => ⟨S2x1024x1, .f32⟩
  | 68 => ⟨S2x1024x1, .f32⟩
  | 69 => ⟨S2x1024x1, .f32⟩
  | 70 => ⟨S2x1024x1, .f32⟩
  | 71 => ⟨S2x1024x1, .f32⟩
  | 72 => ⟨S2x1024x1, .f32⟩
  | 73 => ⟨S2x1024x1, .f32⟩
  | 74 => ⟨S2x1024x1, .f32⟩
  | 75 => ⟨S2x1024x1, .f32⟩
  | 76 => ⟨S2x1024x1, .f32⟩
  | 77 => ⟨S2x1024x1, .f32⟩
  | 78 => ⟨S2x1024x3, .f32⟩
  | 79 => ⟨S_, .f32⟩
  | 80 => ⟨S2x1024x3, .f32⟩
  | 81 => ⟨S2x1024x3, .f32⟩
  | 82 => ⟨S_, .f32⟩
  | 83 => ⟨S2x1024x3, .f32⟩
  | 84 => ⟨S2x1024x3, .f32⟩
  | 85 => ⟨S2x1024x3, .f32⟩
  | 86 => ⟨S_, .f32⟩
  | 87 => ⟨S2x1024x3, .f32⟩
  | 88 => ⟨S2x1024x3, .f32⟩
  | 89 => ⟨S2x1024x3, .f32⟩
  | 90 => ⟨S2x1024x3, .f32⟩
  | 91 => ⟨S2x1024x1x3, .f32⟩
  | 92 => ⟨S2x1024x1x3, .f32⟩
  | 93 => ⟨S2x1024x8x3, .f32⟩
  | 94 => ⟨S2x1024x1, .f32⟩
  | 95 => ⟨S2x1024, .f32⟩
  | 96 => ⟨S2x1024x1, .f32⟩
  | 97 => ⟨S2x1024x8, .f32⟩
  | 98 => ⟨S2x1024x3, .f32⟩
  | 99 => ⟨S2x1x1024, .f32⟩
  | 100 => ⟨S2x1024x1, .f32⟩
  | 101 => ⟨S2x1024x1024, .f32⟩
  | 102 => ⟨S2x1024x1024, .f32⟩
  | 103 => ⟨S2x1024x1024, .f32⟩
  | 104 => ⟨S2x1x1024x3, .f32⟩
  | 105 => ⟨S2x1024x1x3, .f32⟩
  | 106 => ⟨S2x1024x1024x3, .f32⟩
  | 107 => ⟨S2x1024x1024x3, .f32⟩
  | 108 => ⟨S2x1024x1024x3, .f32⟩
  | 109 => ⟨S2x1024x1024x3, .f32⟩
  | 110 => ⟨S_, .f32⟩
  | 111 => ⟨S2x1024x1024, .f32⟩
  | 112 => ⟨S_, .f32⟩
  | 113 => ⟨S2x1024x1024, .f32⟩
  | 114 => ⟨S2x1024x1024, .f32⟩
  | 115 => ⟨S2x1024x1024, .f32⟩
  | 116 => ⟨S2x1024x1024, .f32⟩
  | 117 => ⟨S_, .f32⟩
  | 118 => ⟨S2x1024, .f32⟩
  | 119 => ⟨S2x1024x1, .f32⟩
  | 120 => ⟨S_, .f32⟩
  | 121 => ⟨S2x1024x1024, .f32⟩
  | 122 => ⟨S2x1024x1024, .f32⟩
  | 123 => ⟨S2x1024x1024, .f32⟩
  | 124 => ⟨S2x1024x1024, .f32⟩
  | 125 => ⟨S2x1024x1024, .f32⟩
  | 126 => ⟨S2x1024x1024, .f32⟩
  | 127 => ⟨S2x1024x30, .f32⟩
  | _ => ⟨S2x1024x6x3, .f32⟩

abbrev hbmTy0_1 (i : Nat) : BufTy := match i % 128 with
  | 0 => ⟨S2x1024x30, .i32⟩
  | 1 => ⟨S2x1024x24, .f32⟩
  | 2 => ⟨S2x30720, .i32⟩
  | 3 => ⟨S2x30720x1, .i32⟩
  | 4 => ⟨S2x30720x24, .i32⟩
  | 5 => ⟨S_, .i32⟩
  | 6 => ⟨S2x30720x24, .i32⟩
  | 7 => ⟨S2x30720x24, .i1⟩
  | 8 => ⟨S_, .i32⟩
  | 9 => ⟨S2x30720x24, .i32⟩
  | 10 => ⟨S2x30720x24, .i32⟩
  | 11 => ⟨S2x30720x24, .i32⟩
  | 12 => ⟨S2x30720x24x1, .i32⟩
  | 13 => ⟨S1, .i32⟩
  | 14 => ⟨S_, .i32⟩
  | 15 => ⟨S2x30720x24x1, .i32⟩
  | 16 => ⟨S2x30720x24x1, .i1⟩
  | 17 => ⟨S1x1x1x1, .i32⟩
  | 18 => ⟨S2x30720x24x1, .i32⟩
  | 19 => ⟨S2x30720x24x1, .i1⟩
  | 20 => ⟨S2x30720x24x1, .i1⟩
  | 21 => ⟨S_, .i1⟩
  | 22 => ⟨S2x30720x24, .i1⟩
  | 23 => ⟨S2x30720x24, .f32⟩
  | 24 => ⟨S_, .f32⟩
  | 25 => ⟨S2x30720x24, .f32⟩
  | 26 => ⟨S2x30720x24, .f32⟩
  | 27 => ⟨S2x1024x30x24, .f32⟩
  | 28 => ⟨S2x1024x30x8x3, .f32⟩
  | 29 => ⟨S2x1024x1x8x1x3, .f32⟩
  | 30 => ⟨S2x1024x30x1x8x3, .f32⟩
  | 31 => ⟨S2x1024x30x8x8x3, .f32⟩
  | 32 => ⟨S2x1024x30x8x8x3, .f32⟩
  | 33 => ⟨S2x1024x30x8x8x3, .f32⟩
  | 34 => ⟨S2x1024x30x8x8x3, .f32⟩
  | 35 => ⟨S_, .f32⟩
  | 36 => ⟨S2x1024x30x8x8, .f32⟩
  | 37 => ⟨S_, .f32⟩
  | 38 => ⟨S2x1024x30x8x8, .f32⟩
  | 39 => ⟨S2x1024x30x8x8, .f32⟩
  | 40 => ⟨S2x1024x30x8x8, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S15, .f32⟩
  | 49 => ⟨S_, .f32⟩
  | 50 => ⟨S15, .f32⟩
  | 51 => ⟨S15, .f32⟩
  | 52 => ⟨S1, .f32⟩
  | 53 => ⟨S_, .f32⟩
  | 54 => ⟨S15, .f32⟩
  | 55 => ⟨S15, .f32⟩
  | 56 => ⟨S15, .f32⟩
  | 57 => ⟨S15, .f32⟩
  | 58 => ⟨S1, .f32⟩
  | 59 => ⟨S15, .f32⟩
  | 60 => ⟨S15, .f32⟩
  | 61 => ⟨S15, .f32⟩
  | 62 => ⟨S1, .f32⟩
  | 63 => ⟨S16, .f32⟩
  | 64 => ⟨S1x1x1x1x1x16, .f32⟩
  | 65 => ⟨S2x1024x30x8x8x1, .f32⟩
  | 66 => ⟨S2x1024x30x8x8x16, .f32⟩
  | 67 => ⟨S2x1024x30x8x8x16, .f32⟩
  | 68 => ⟨S2x1024x30x8x8x16, .f32⟩
  | 69 => ⟨S_, .f32⟩
  | 70 => ⟨S2x1024x30x8x8x16, .f32⟩
  | 71 => ⟨S2x1024x30x8x8x16, .f32⟩
  | 72 => ⟨S2x1024x30x8x8x16, .f32⟩
  | 73 => ⟨S2x1024x30x8x8x16, .f32⟩
  | 74 => ⟨S2x1024x30x8x8x16, .f32⟩
  | 75 => ⟨S2x30720, .i32⟩
  | 76 => ⟨S2x30720x1, .i32⟩
  | 77 => ⟨S2x30720x8, .i32⟩
  | 78 => ⟨S_, .i32⟩
  | 79 => ⟨S2x30720x8, .i32⟩
  | 80 => ⟨S2x30720x8, .i1⟩
  | 81 => ⟨S_, .i32⟩
  | 82 => ⟨S2x30720x8, .i32⟩
  | 83 => ⟨S2x30720x8, .i32⟩
  | 84 => ⟨S2x30720x8, .i32⟩
  | 85 => ⟨S2x30720x8x1, .i32⟩
  | 86 => ⟨S1, .i32⟩
  | 87 => ⟨S_, .i32⟩
  | 88 => ⟨S2x30720x8x1, .i32⟩
  | 89 => ⟨S2x30720x8x1, .i1⟩
  | 90 => ⟨S1x1x1x1, .i32⟩
  | 91 => ⟨S2x30720x8x1, .i32⟩
  | 92 => ⟨S2x30720x8x1, .i1⟩
  | 93 => ⟨S2x30720x8x1, .i1⟩
  | 94 => ⟨S_, .i1⟩
  | 95 => ⟨S2x30720x8, .i1⟩
  | 96 => ⟨S2x30720x8, .f32⟩
  | 97 => ⟨S_, .f32⟩
  | 98 => ⟨S2x30720x8, .f32⟩
  | 99 => ⟨S2x30720x8, .f32⟩
  | 100 => ⟨S2x1024x30x8, .f32⟩
  | 101 => ⟨S2x1024x1x8x1x1, .f32⟩
  | 102 => ⟨S2x1024x30x8x8x16, .f32⟩
  | 103 => ⟨S2x1024x30x8x8x16, .f32⟩
  | 104 => ⟨S2x1024x30x1x8x1, .f32⟩
  | 105 => ⟨S2x1024x30x8x8x16, .f32⟩
  | 106 => ⟨S2x1024x30x8x8x16, .f32⟩
  | 107 => ⟨S2x1024x30x1024, .f32⟩
  | 108 => ⟨S2x1024x1, .i32⟩
  | 109 => ⟨S2x1x1024, .i32⟩
  | 110 => ⟨S2x1024x1024, .i32⟩
  | 111 => ⟨S2x1024x1024, .i32⟩
  | 112 => ⟨S2x1024x1024, .i32⟩
  | 113 => ⟨S2x1024x1024x1, .i32⟩
  | 114 => ⟨S2x1024x30x1, .i32⟩
  | 115 => ⟨S_, .i32⟩
  | 116 => ⟨S2x1024x30x1, .i32⟩
  | 117 => ⟨S2x1024x30x1, .i1⟩
  | 118 => ⟨S_, .i32⟩
  | 119 => ⟨S2x1024x30x1, .i32⟩
  | 120 => ⟨S2x1024x30x1, .i32⟩
  | 121 => ⟨S2x1024x30x1, .i32⟩
  | 122 => ⟨S1, .i32⟩
  | 123 => ⟨S_, .i32⟩
  | 124 => ⟨S2x1024x30x1, .i32⟩
  | 125 => ⟨S2x1024x30x1, .i1⟩
  | 126 => ⟨S1x1x1x1, .i32⟩
  | 127 => ⟨S2x1024x30x1, .i32⟩
  | _ => ⟨S2x1024x6x3, .f32⟩

abbrev hbmTy0_2 (i : Nat) : BufTy := match i % 128 with
  | 0 => ⟨S2x1024x30x1, .i1⟩
  | 1 => ⟨S2x1024x30x1, .i1⟩
  | 2 => ⟨S_, .i1⟩
  | 3 => ⟨S2x1024x30, .i1⟩
  | 4 => ⟨S2x1024x30x1, .i32⟩
  | 5 => ⟨S2x1024x30x1, .i1⟩
  | 6 => ⟨S_, .i32⟩
  | 7 => ⟨S2x1024x30x1, .i32⟩
  | 8 => ⟨S2x1024x30x1, .i32⟩
  | 9 => ⟨S2x1024x30, .i32⟩
  | 10 => ⟨S2x1024x1, .i32⟩
  | 11 => ⟨S2x1x1024, .i32⟩
  | 12 => ⟨S2x1024x1024, .i32⟩
  | 13 => ⟨S2x1024x1024, .i32⟩
  | 14 => ⟨S2x1024x1024, .i32⟩
  | 15 => ⟨S_, .i32⟩
  | 16 => ⟨S2x1024x1024, .i32⟩
  | 17 => ⟨S2x1024x1024, .i1⟩
  | 18 => ⟨S2x1024x1024, .i32⟩
  | 19 => ⟨S2x1024x1024x1, .i32⟩
  | 20 => ⟨S2x1024x30x1, .i32⟩
  | 21 => ⟨S_, .i32⟩
  | 22 => ⟨S2x1024x30x1, .i32⟩
  | 23 => ⟨S2x1024x30x1, .i1⟩
  | 24 => ⟨S_, .i32⟩
  | 25 => ⟨S2x1024x30x1, .i32⟩
  | 26 => ⟨S2x1024x30x1, .i32⟩
  | 27 => ⟨S2x1024x30x1, .i32⟩
  | 28 => ⟨S1, .i32⟩
  | 29 => ⟨S_, .i32⟩
  | 30 => ⟨S2x1024x30x1, .i32⟩
  | 31 => ⟨S2x1024x30x1, .i1⟩
  | 32 => ⟨S1x1x1x1, .i32⟩
  | 33 => ⟨S2x1024x30x1, .i32⟩
  | 34 => ⟨S2x1024x30x1, .i1⟩
  | 35 => ⟨S2x1024x30x1, .i1⟩
  | 36 => ⟨S_, .i1⟩
  | 37 => ⟨S2x1024x30, .i1⟩
  | 38 => ⟨S2x1024x30x1, .i32⟩
  | 39 => ⟨S2x1024x30x1, .i1⟩
  | 40 => ⟨S_, .i32⟩
  | 41 => ⟨S2x1024x30x1, .i32⟩
  | 42 => ⟨S2x1024x30x1, .i32⟩
  | 43 => ⟨S2x1024x30, .i32⟩
  | 44 => ⟨S_, .i32⟩
  | 45 => ⟨S2x1024x30, .i32⟩
  | 46 => ⟨S2x1024x30, .i32⟩
  | 47 => ⟨S_, .i32⟩
  | 48 => ⟨S_, .i32⟩
  | 49 => ⟨S_, .i32⟩
  | 50 => ⟨S2x1024x30, .i32⟩
  | 51 => ⟨S2x1024x30, .i32⟩
  | 52 => ⟨S_, .i32⟩
  | 53 => ⟨S2x1024x30, .i32⟩
  | 54 => ⟨S2x1024x30, .i32⟩
  | 55 => ⟨S2x1024x30, .i32⟩
  | 56 => ⟨S_, .i32⟩
  | 57 => ⟨S2x1024x30, .i32⟩
  | 58 => ⟨S2x1024x30, .i32⟩
  | 59 => ⟨S_, .i32⟩
  | 60 => ⟨S2x1024x30, .i32⟩
  | 61 => ⟨S2x1024x30, .i32⟩
  | 62 => ⟨S2x1024x30, .i32⟩
  | 63 => ⟨S2x1024x30x1, .i32⟩
  | 64 => ⟨S1x1x1x66, .i32⟩
  | 65 => ⟨S2x1024x30x66, .i32⟩
  | 66 => ⟨S2x1024x30x66, .i32⟩
  | 67 => ⟨S2x1024x30x66, .i1⟩
  | 68 => ⟨S2x1024x30x66, .f32⟩
  | 69 => ⟨S66x16, .f32⟩
  | 70 => ⟨S2x1024x30x16, .f32⟩
  | 71 => ⟨S1x1x1x16, .f32⟩
  | 72 => ⟨S2x1024x30x16, .f32⟩
  | 73 => ⟨S2x1024x30x16, .f32⟩
  | 74 => ⟨S2x1024x30x1040, .f32⟩
  | 75 => ⟨S1040x128, .f32⟩
  | 76 => ⟨S2x1024x30x128, .f32⟩
  | 77 => ⟨S_, .f32⟩
  | 78 => ⟨S2x1024x30, .f32⟩
  | 79 => ⟨S2x1024x30x1, .f32⟩
  | 80 => ⟨S_, .f32⟩
  | 81 => ⟨S2x1024x30x1, .f32⟩
  | 82 => ⟨S2x1024x30x1, .f32⟩
  | 83 => ⟨S2x1024x30x128, .f32⟩
  | 84 => ⟨S2x1024x30x128, .f32⟩
  | 85 => ⟨S2x1024x30x128, .f32⟩
  | 86 => ⟨S_, .f32⟩
  | 87 => ⟨S2x1024x30, .f32⟩
  | 88 => ⟨S2x1024x30x1, .f32⟩
  | 89 => ⟨S_, .f32⟩
  | 90 => ⟨S2x1024x30x1, .f32⟩
  | 91 => ⟨S2x1024x30x1, .f32⟩
  | 92 => ⟨S2x1024x30x128, .f32⟩
  | 93 => ⟨S2x1024x30x128, .f32⟩
  | 94 => ⟨S_, .f32⟩
  | 95 => ⟨S2x1024x30x1, .f32⟩
  | 96 => ⟨S2x1024x30x1, .f32⟩
  | 97 => ⟨S2x1024x30x1, .f32⟩
  | 98 => ⟨S2x1024x30x128, .f32⟩
  | 99 => ⟨S2x1024x30x128, .f32⟩
  | 100 => ⟨S1x1x1x128, .f32⟩
  | 101 => ⟨S2x1024x30x128, .f32⟩
  | 102 => ⟨S2x1024x30x128, .f32⟩
  | 103 => ⟨S1x1x1x128, .f32⟩
  | 104 => ⟨S2x1024x30x128, .f32⟩
  | 105 => ⟨S2x1024x30x128, .f32⟩
  | 106 => ⟨S2x1024x1, .i32⟩
  | 107 => ⟨S1x1x3, .i32⟩
  | 108 => ⟨S2x1024x3, .i32⟩
  | 109 => ⟨S2x1024x3, .i32⟩
  | 110 => ⟨S2x1024x3, .i1⟩
  | 111 => ⟨S2x1024x3, .f32⟩
  | 112 => ⟨S3x128, .f32⟩
  | 113 => ⟨S2x1024x128, .f32⟩
  | 114 => ⟨S_, .f32⟩
  | 115 => ⟨S2x1024, .f32⟩
  | 116 => ⟨S2x1024x1, .f32⟩
  | 117 => ⟨S_, .f32⟩
  | 118 => ⟨S2x1024x1, .f32⟩
  | 119 => ⟨S2x1024x1, .f32⟩
  | 120 => ⟨S2x1024x128, .f32⟩
  | 121 => ⟨S2x1024x128, .f32⟩
  | 122 => ⟨S2x1024x128, .f32⟩
  | 123 => ⟨S_, .f32⟩
  | 124 => ⟨S2x1024, .f32⟩
  | 125 => ⟨S2x1024x1, .f32⟩
  | 126 => ⟨S_, .f32⟩
  | 127 => ⟨S2x1024x1, .f32⟩
  | _ => ⟨S2x1024x6x3, .f32⟩

abbrev hbmTy0_3 (i : Nat) : BufTy := match i % 128 with
  | 0 => ⟨S2x1024x1, .f32⟩
  | 1 => ⟨S2x1024x128, .f32⟩
  | 2 => ⟨S2x1024x128, .f32⟩
  | 3 => ⟨S_, .f32⟩
  | 4 => ⟨S2x1024x1, .f32⟩
  | 5 => ⟨S2x1024x1, .f32⟩
  | 6 => ⟨S2x1024x1, .f32⟩
  | 7 => ⟨S2x1024x128, .f32⟩
  | 8 => ⟨S2x1024x128, .f32⟩
  | 9 => ⟨S1x1x128, .f32⟩
  | 10 => ⟨S2x1024x128, .f32⟩
  | 11 => ⟨S2x1024x128, .f32⟩
  | 12 => ⟨S1x1x128, .f32⟩
  | 13 => ⟨S2x1024x128, .f32⟩
  | 14 => ⟨S2x1024x128, .f32⟩
  | 15 => ⟨S2x30720x128, .f32⟩
  | 16 => ⟨S2x16x64x30, .i32⟩
  | _ => ⟨S2x1024x6x3, .f32⟩

abbrev hbmTy (i : Nat) : BufTy := match i / 128 with
  | 0 => hbmTy0_0 i
  | 1 => hbmTy0_1 i
  | 2 => hbmTy0_2 i
  | 3 => hbmTy0_3 i
  | _ => ⟨S2x1024x6x3, .f32⟩

abbrev bufTy : (tb : Table) → Fin (tcTables nBuf tb) → BufTy
  | .hbm, ⟨i, _⟩ => hbmTy i
  | _, _ => ⟨S2x1024x6x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_2 : Ref sig .tc := ⟨.hbm, 79, rfl⟩
abbrev main_v59 : Ref sig .tc := ⟨.hbm, 80, rfl⟩
abbrev main_v60 : Ref sig .tc := ⟨.hbm, 81, rfl⟩
abbrev main_cst_3 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_5 : Ref sig .tc := ⟨.hbm, 110, rfl⟩
abbrev main_v87 : Ref sig .tc := ⟨.hbm, 111, rfl⟩
abbrev main_cst_6 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_7 : Ref sig .tc := ⟨.hbm, 117, rfl⟩
abbrev main_v92 : Ref sig .tc := ⟨.hbm, 118, rfl⟩
abbrev main_v93 : Ref sig .tc := ⟨.hbm, 119, rfl⟩
abbrev main_cst_8 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_values : Ref sig .tc := ⟨.hbm, 127, rfl⟩
abbrev main_indices : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call0_c : Ref sig .tc := ⟨.hbm, 133, rfl⟩
abbrev main_call0_v0 : Ref sig .tc := ⟨.hbm, 134, rfl⟩
abbrev main_call0_v1 : Ref sig .tc := ⟨.hbm, 135, rfl⟩
abbrev main_call0_c_0 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_call0_v5 : Ref sig .tc := ⟨.hbm, 140, rfl⟩
abbrev main_call0_c_1 : Ref sig .tc := ⟨.hbm, 141, rfl⟩
abbrev main_call0_c_2 : Ref sig .tc := ⟨.hbm, 142, rfl⟩
abbrev main_call0_v6 : Ref sig .tc := ⟨.hbm, 143, rfl⟩
abbrev main_call0_v7 : Ref sig .tc := ⟨.hbm, 144, rfl⟩
abbrev main_call0_v8 : Ref sig .tc := ⟨.hbm, 145, rfl⟩
abbrev main_call0_v9 : Ref sig .tc := ⟨.hbm, 146, rfl⟩
abbrev main_call0_v10 : Ref sig .tc := ⟨.hbm, 147, rfl⟩
abbrev main_call0_v11 : Ref sig .tc := ⟨.hbm, 148, rfl⟩
abbrev main_call0_c_3 : Ref sig .tc := ⟨.hbm, 149, rfl⟩
abbrev main_call0_v12 : Ref sig .tc := ⟨.hbm, 150, rfl⟩
abbrev main_call0_v13 : Ref sig .tc := ⟨.hbm, 151, rfl⟩
abbrev main_call0_cst : Ref sig .tc := ⟨.hbm, 152, rfl⟩
abbrev main_call0_v14 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_9 : Ref sig .tc := ⟨.hbm, 163, rfl⟩
abbrev main_v113 : Ref sig .tc := ⟨.hbm, 164, rfl⟩
abbrev main_cst_10 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_11 : Ref sig .tc := ⟨.hbm, 169, rfl⟩
abbrev main_cst_12 : Ref sig .tc := ⟨.hbm, 170, rfl⟩
abbrev main_call1_v0 : Ref sig .tc := ⟨.hbm, 171, rfl⟩
abbrev main_call1_v1 : Ref sig .tc := ⟨.hbm, 172, rfl⟩
abbrev main_call1_v2 : Ref sig .tc := ⟨.hbm, 173, rfl⟩
abbrev main_call1_cst : Ref sig .tc := ⟨.hbm, 174, rfl⟩
abbrev main_call1_v3 : Ref sig .tc := ⟨.hbm, 175, rfl⟩
abbrev main_call1_v4 : Ref sig .tc := ⟨.hbm, 176, rfl⟩
abbrev main_call1_cst_0 : Ref sig .tc := ⟨.hbm, 177, rfl⟩
abbrev main_call1_v5 : Ref sig .tc := ⟨.hbm, 178, rfl⟩
abbrev main_call1_v6 : Ref sig .tc := ⟨.hbm, 179, rfl⟩
abbrev main_call1_v7 : Ref sig .tc := ⟨.hbm, 180, rfl⟩
abbrev main_call1_cst_1 : Ref sig .tc := ⟨.hbm, 181, rfl⟩
abbrev main_call1_v8 : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_v12 : Ref sig .tc := ⟨.hbm, 186, rfl⟩
abbrev main_call1_v13 : Ref sig .tc := ⟨.hbm, 187, rfl⟩
abbrev main_call1_v14 : Ref sig .tc := ⟨.hbm, 188, rfl⟩
abbrev main_call1_v15 : Ref sig .tc := ⟨.hbm, 189, rfl⟩
abbrev main_call1_v16 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_cst_13 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_call2_c : Ref sig .tc := ⟨.hbm, 206, rfl⟩
abbrev main_call2_v0 : Ref sig .tc := ⟨.hbm, 207, rfl⟩
abbrev main_call2_v1 : Ref sig .tc := ⟨.hbm, 208, rfl⟩
abbrev main_call2_c_0 : Ref sig .tc := ⟨.hbm, 209, rfl⟩
abbrev main_call2_v2 : Ref sig .tc := ⟨.hbm, 210, rfl⟩
abbrev main_call2_v3 : Ref sig .tc := ⟨.hbm, 211, rfl⟩
abbrev main_call2_v4 : Ref sig .tc := ⟨.hbm, 212, rfl⟩
abbrev main_call2_v5 : Ref sig .tc := ⟨.hbm, 213, rfl⟩
abbrev main_call2_c_1 : Ref sig .tc := ⟨.hbm, 214, rfl⟩
abbrev main_call2_c_2 : Ref sig .tc := ⟨.hbm, 215, rfl⟩
abbrev main_call2_v6 : Ref sig .tc := ⟨.hbm, 216, rfl⟩
abbrev main_call2_v7 : Ref sig .tc := ⟨.hbm, 217, rfl⟩
abbrev main_call2_v8 : Ref sig .tc := ⟨.hbm, 218, rfl⟩
abbrev main_call2_v9 : Ref sig .tc := ⟨.hbm, 219, rfl⟩
abbrev main_call2_v10 : Ref sig .tc := ⟨.hbm, 220, rfl⟩
abbrev main_call2_v11 : Ref sig .tc := ⟨.hbm, 221, rfl⟩
abbrev main_call2_c_3 : Ref sig .tc := ⟨.hbm, 222, rfl⟩
abbrev main_call2_v12 : Ref sig .tc := ⟨.hbm, 223, rfl⟩
abbrev main_call2_v13 : Ref sig .tc := ⟨.hbm, 224, rfl⟩
abbrev main_call2_cst : Ref sig .tc := ⟨.hbm, 225, rfl⟩
abbrev main_call2_v14 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_call3_c : Ref sig .tc := ⟨.hbm, 243, rfl⟩
abbrev main_call3_v0 : Ref sig .tc := ⟨.hbm, 244, rfl⟩
abbrev main_call3_v1 : Ref sig .tc := ⟨.hbm, 245, rfl⟩
abbrev main_call3_c_0 : Ref sig .tc := ⟨.hbm, 246, rfl⟩
abbrev main_call3_v2 : Ref sig .tc := ⟨.hbm, 247, rfl⟩
abbrev main_call3_v3 : Ref sig .tc := ⟨.hbm, 248, rfl⟩
abbrev main_call3_v4 : Ref sig .tc := ⟨.hbm, 249, rfl⟩
abbrev main_call3_c_1 : Ref sig .tc := ⟨.hbm, 250, rfl⟩
abbrev main_call3_c_2 : Ref sig .tc := ⟨.hbm, 251, rfl⟩
abbrev main_call3_v5 : Ref sig .tc := ⟨.hbm, 252, rfl⟩
abbrev main_call3_v6 : Ref sig .tc := ⟨.hbm, 253, rfl⟩
abbrev main_call3_v7 : Ref sig .tc := ⟨.hbm, 254, rfl⟩
abbrev main_call3_v8 : Ref sig .tc := ⟨.hbm, 255, rfl⟩
abbrev main_call3_v9 : Ref sig .tc := ⟨.hbm, 256, rfl⟩
abbrev main_call3_v10 : Ref sig .tc := ⟨.hbm, 257, rfl⟩
abbrev main_call3_c_3 : Ref sig .tc := ⟨.hbm, 258, rfl⟩
abbrev main_call3_v11 : Ref sig .tc := ⟨.hbm, 259, rfl⟩
abbrev main_call3_v12 : Ref sig .tc := ⟨.hbm, 260, rfl⟩
abbrev main_call3_v13 : Ref sig .tc := ⟨.hbm, 261, rfl⟩
abbrev main_call3_c_4 : Ref sig .tc := ⟨.hbm, 262, rfl⟩
abbrev main_call3_v14 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_c : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_call4_c : Ref sig .tc := ⟨.hbm, 277, rfl⟩
abbrev main_call4_v0 : Ref sig .tc := ⟨.hbm, 278, rfl⟩
abbrev main_call4_v1 : Ref sig .tc := ⟨.hbm, 279, rfl⟩
abbrev main_call4_c_0 : Ref sig .tc := ⟨.hbm, 280, rfl⟩
abbrev main_call4_v2 : Ref sig .tc := ⟨.hbm, 281, rfl⟩
abbrev main_call4_v3 : Ref sig .tc := ⟨.hbm, 282, rfl⟩
abbrev main_call4_v4 : Ref sig .tc := ⟨.hbm, 283, rfl⟩
abbrev main_call4_c_1 : Ref sig .tc := ⟨.hbm, 284, rfl⟩
abbrev main_call4_c_2 : Ref sig .tc := ⟨.hbm, 285, rfl⟩
abbrev main_call4_v5 : Ref sig .tc := ⟨.hbm, 286, rfl⟩
abbrev main_call4_v6 : Ref sig .tc := ⟨.hbm, 287, rfl⟩
abbrev main_call4_v7 : Ref sig .tc := ⟨.hbm, 288, rfl⟩
abbrev main_call4_v8 : Ref sig .tc := ⟨.hbm, 289, rfl⟩
abbrev main_call4_v9 : Ref sig .tc := ⟨.hbm, 290, rfl⟩
abbrev main_call4_v10 : Ref sig .tc := ⟨.hbm, 291, rfl⟩
abbrev main_call4_c_3 : Ref sig .tc := ⟨.hbm, 292, rfl⟩
abbrev main_call4_v11 : Ref sig .tc := ⟨.hbm, 293, rfl⟩
abbrev main_call4_v12 : Ref sig .tc := ⟨.hbm, 294, rfl⟩
abbrev main_call4_v13 : Ref sig .tc := ⟨.hbm, 295, rfl⟩
abbrev main_call4_c_4 : Ref sig .tc := ⟨.hbm, 296, rfl⟩
abbrev main_call4_v14 : Ref sig .tc := ⟨.hbm, 297, rfl⟩
abbrev main_v159 : Ref sig .tc := ⟨.hbm, 298, rfl⟩
abbrev main_v160 : Ref sig .tc := ⟨.hbm, 299, rfl⟩
abbrev main_c_14 : Ref sig .tc := ⟨.hbm, 300, rfl⟩
abbrev main_v161 : Ref sig .tc := ⟨.hbm, 301, rfl⟩
abbrev main_v162 : Ref sig .tc := ⟨.hbm, 302, rfl⟩
abbrev main_c_15 : Ref sig .tc := ⟨.hbm, 303, rfl⟩
abbrev main_c_16 : Ref sig .tc := ⟨.hbm, 304, rfl⟩
abbrev main_call5_v0 : Ref sig .tc := ⟨.hbm, 305, rfl⟩
abbrev main_call5_v1 : Ref sig .tc := ⟨.hbm, 306, rfl⟩
abbrev main_call5_v2 : Ref sig .tc := ⟨.hbm, 307, rfl⟩
abbrev main_call5_v3 : Ref sig .tc := ⟨.hbm, 308, rfl⟩
abbrev main_call5_v4 : Ref sig .tc := ⟨.hbm, 309, rfl⟩
abbrev main_v163 : Ref sig .tc := ⟨.hbm, 310, rfl⟩
abbrev main_v164 : Ref sig .tc := ⟨.hbm, 311, rfl⟩
abbrev main_c_17 : Ref sig .tc := ⟨.hbm, 312, rfl⟩
abbrev main_v165 : Ref sig .tc := ⟨.hbm, 313, rfl⟩
abbrev main_v166 : Ref sig .tc := ⟨.hbm, 314, rfl⟩
abbrev main_c_18 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_call6_v0 : Ref sig .tc := ⟨.hbm, 319, rfl⟩
abbrev main_call6_v1 : Ref sig .tc := ⟨.hbm, 320, rfl⟩
abbrev main_call6_v2 : Ref sig .tc := ⟨.hbm, 321, rfl⟩
abbrev main_call6_v3 : Ref sig .tc := ⟨.hbm, 322, rfl⟩
abbrev main_call6_v4 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_v178 : Ref sig .tc := ⟨.hbm, 332, rfl⟩
abbrev main_cst_19 : Ref sig .tc := ⟨.hbm, 333, rfl⟩
abbrev main_v179 : Ref sig .tc := ⟨.hbm, 334, rfl⟩
abbrev main_v180 : Ref sig .tc := ⟨.hbm, 335, rfl⟩
abbrev main_cst_20 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_cst_21 : Ref sig .tc := ⟨.hbm, 342, rfl⟩
abbrev main_v186 : Ref sig .tc := ⟨.hbm, 343, rfl⟩
abbrev main_v187 : Ref sig .tc := ⟨.hbm, 344, rfl⟩
abbrev main_cst_22 : Ref sig .tc := ⟨.hbm, 345, rfl⟩
abbrev main_v188 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_cst_23 : Ref sig .tc := ⟨.hbm, 350, rfl⟩
abbrev main_v192 : Ref sig .tc := ⟨.hbm, 351, rfl⟩
abbrev main_v193 : Ref sig .tc := ⟨.hbm, 352, rfl⟩
abbrev main_v194 : Ref sig .tc := ⟨.hbm, 353, rfl⟩
abbrev main_v195 : Ref sig .tc := ⟨.hbm, 354, rfl⟩
abbrev main_v196 : Ref sig .tc := ⟨.hbm, 355, rfl⟩
abbrev main_v197 : Ref sig .tc := ⟨.hbm, 356, rfl⟩
abbrev main_v198 : Ref sig .tc := ⟨.hbm, 357, rfl⟩
abbrev main_v199 : Ref sig .tc := ⟨.hbm, 358, rfl⟩
abbrev main_v200 : Ref sig .tc := ⟨.hbm, 359, rfl⟩
abbrev main_v201 : Ref sig .tc := ⟨.hbm, 360, rfl⟩
abbrev main_v202 : Ref sig .tc := ⟨.hbm, 361, rfl⟩
abbrev main_call7_v0 : Ref sig .tc := ⟨.hbm, 362, rfl⟩
abbrev main_call7_v1 : Ref sig .tc := ⟨.hbm, 363, rfl⟩
abbrev main_call7_v2 : Ref sig .tc := ⟨.hbm, 364, rfl⟩
abbrev main_call7_v3 : Ref sig .tc := ⟨.hbm, 365, rfl⟩
abbrev main_call7_v4 : Ref sig .tc := ⟨.hbm, 366, rfl⟩
abbrev main_v203 : Ref sig .tc := ⟨.hbm, 367, rfl⟩
abbrev main_v204 : Ref sig .tc := ⟨.hbm, 368, rfl⟩
abbrev main_v205 : Ref sig .tc := ⟨.hbm, 369, rfl⟩
abbrev main_cst_24 : Ref sig .tc := ⟨.hbm, 370, rfl⟩
abbrev main_v206 : Ref sig .tc := ⟨.hbm, 371, rfl⟩
abbrev main_v207 : Ref sig .tc := ⟨.hbm, 372, rfl⟩
abbrev main_cst_25 : Ref sig .tc := ⟨.hbm, 373, rfl⟩
abbrev main_v208 : Ref sig .tc := ⟨.hbm, 374, rfl⟩
abbrev main_v209 : Ref sig .tc := ⟨.hbm, 375, rfl⟩
abbrev main_v210 : Ref sig .tc := ⟨.hbm, 376, rfl⟩
abbrev main_v211 : Ref sig .tc := ⟨.hbm, 377, rfl⟩
abbrev main_v212 : Ref sig .tc := ⟨.hbm, 378, rfl⟩
abbrev main_cst_26 : Ref sig .tc := ⟨.hbm, 379, rfl⟩
abbrev main_v213 : Ref sig .tc := ⟨.hbm, 380, rfl⟩
abbrev main_v214 : Ref sig .tc := ⟨.hbm, 381, rfl⟩
abbrev main_cst_27 : Ref sig .tc := ⟨.hbm, 382, rfl⟩
abbrev main_v215 : Ref sig .tc := ⟨.hbm, 383, rfl⟩
abbrev main_v216 : Ref sig .tc := ⟨.hbm, 384, rfl⟩
abbrev main_v217 : Ref sig .tc := ⟨.hbm, 385, rfl⟩
abbrev main_v218 : Ref sig .tc := ⟨.hbm, 386, rfl⟩
abbrev main_cst_28 : Ref sig .tc := ⟨.hbm, 387, rfl⟩
abbrev main_v219 : Ref sig .tc := ⟨.hbm, 388, rfl⟩
abbrev main_v220 : Ref sig .tc := ⟨.hbm, 389, rfl⟩
abbrev main_v221 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_v227 : Ref sig .tc := ⟨.hbm, 396, rfl⟩
abbrev main_v228 : Ref sig .tc := ⟨.hbm, 397, rfl⟩
abbrev main_v229 : Ref sig .tc := ⟨.hbm, 398, rfl⟩
abbrev main_v230 : Ref sig .tc := ⟨.hbm, 399, rfl⟩
abbrev main_v231 : Ref sig .tc := ⟨.hbm, 400, rfl⟩

abbrev nD : Nat := 1
abbrev τ : Topo := Topo.v7x

variable {F : FTy → Type} [FloatOps F]
-- ==== Proof.Consts.lean ====
/-
  The values of the float literals, and what a comparison's one-bit answer says.
-/
module

public import Idealize.ShloMosaic.Lib.Pointwise

@[expose] public section

noncomputable section

namespace Cert.Consts

open Idealize.ShloMosaic

theorem top_lit : Ideal.ofBits FTy.f32 0x7F800000#32 = (⊤ : EReal) := by
  simp [Ideal.ofBits, Ideal.ieee]

theorem one_lit : Ideal.ofBits FTy.f32 0x3F800000#32 = (1 : EReal) := by
  simp [Ideal.ofBits, Ideal.ieee, -EReal.coe_mul]; norm_num

theorem zero_lit : Ideal.ofBits FTy.f32 0x00000000#32 = (0 : EReal) := by
  simp [Ideal.ofBits, Ideal.ieee]

/-- A one-bit truth value is one where the truth holds. -/
theorem ofBool_one {b : Bool} (h : BitVec.ofBool b = 1#1) : b = true := by
  revert h; cases b <;> decide

theorem ofBool_decide {p : Prop} [Decidable p] (h : BitVec.ofBool (decide p) = 1#1) : p :=
  of_decide_eq_true (ofBool_one h)

theorem eq_of_cmpi {x y : BitVec 32} (h : IntOp.cmpi .eq x y = 1#1) : x = y := by
  have := ofBool_one h
  simpa using this

end Cert.Consts

end
-- ==== Proof.TopSel.lean ====
/-
  The order in which a stable sort by a key alone lists positions, and the round-by-round selection of the least key: pure
  facts about a row of keys in the extended reals.
-/
module

public import Idealize.ShloMosaic.Lib.SortFacts
public import Idealize.ShloMosaic.Lib.SortPrefix
public import Mathlib.Data.EReal.Basic

@[expose] public section

noncomputable section

namespace Cert.TopSel

open Idealize.ShloMosaic

/-- `a` comes strictly before `b`: the smaller key first, equal keys by position. -/
def lexB {n : Nat} (D : Fin n → EReal) (a b : Fin n) : Bool := decide (D a < D b ∨ (D a = D b ∧ a < b))

theorem lexB_iff {n : Nat} (D : Fin n → EReal) (a b : Fin n) :
    lexB D a b = true ↔ D a < D b ∨ (D a = D b ∧ a < b) := by simp [lexB]

/-- Key, then position: a strict total order. -/
theorem lexB_total {n : Nat} (D : Fin n → EReal) : StrictTotalBefore (lexB D) where
  irrefl a := by simp [lexB]
  trans a b c h h' := by
    rw [lexB_iff] at *
    rcases h with h | ⟨h, g⟩ <;> rcases h' with h' | ⟨h', g'⟩
    · exact Or.inl (h.trans h')
    · exact Or.inl (h' ▸ h)
    · exact Or.inl (h ▸ h')
    · exact Or.inr ⟨h.trans h', g.trans g'⟩
  total a b hne := by
    rw [lexB_iff, lexB_iff]
    rcases lt_trichotomy (D a) (D b) with h | h | h
    · exact Or.inl (Or.inl h)
    · rcases lt_or_gt_of_ne hne with g | g
      · exact Or.inl (Or.inr ⟨h, g⟩)
      · exact Or.inr (Or.inr ⟨h.symm, g⟩)
    · exact Or.inr (Or.inl h)

/-- A stable sort of an increasing list of positions compares an element only with later ones: two relations that agree
    there give the same list. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [← ih h.2]
    exact insertBefore_congr R R' a _ fun b hb => h.1 b ((perm_stableSort R l).mem_iff.mp hb)

/-- The stable sort by the key alone is the sort by the key and then the position. -/
theorem sortedFrom_key_eq_lex {n : Nat} (D : Fin n → EReal) (R : Fin n → Fin n → Bool)
    (hR : ∀ a b, R a b = true ↔ D a < D b) : sortedFrom R = sortedFrom (lexB D) := by
  have e : sortPositions n R = sortPositions n (lexB D) := by
    refine stableSort_congr_of_pairwise _ _ _ ?_
    have hs : (List.finRange n).Pairwise (· < ·) := List.pairwise_lt_finRange n
    refine hs.imp fun {a b} hab => ?_
    rw [Bool.eq_iff_iff, hR, lexB_iff]
    constructor
    · exact Or.inl
    · rintro (h | ⟨-, h⟩)
      · exact h
      · exact absurd h (not_lt.mpr hab.le)
  funext k
  unfold sortedFrom
  rw [List.get_of_eq e]
  rfl

/-- Of the positions the sort has not yet listed before rank `k`, the one at rank `k` is the first: whatever position is
    not listed before rank `k` is it or comes after it. -/
theorem sortedFrom_least {n : Nat} (D : Fin n → EReal) (k : Fin n) (p : Fin n)
    (hp : ∀ k' : Fin n, k' < k → sortedFrom (lexB D) k' ≠ p) :
    sortedFrom (lexB D) k = p ∨ lexB D (sortedFrom (lexB D) k) p = true := by
  obtain ⟨i, rfl⟩ := sortedFrom_surjective (lexB D) p
  have hki : k ≤ i := not_lt.mp fun h => hp i h rfl
  rcases eq_or_lt_of_le hki with rfl | h
  · exact Or.inl rfl
  · refine Or.inr ?_
    have := sortedFrom_noInversion (lexB D) (lexB D) (lexB_total D).asymm (fun _ _ h => h) (lexB_total D).negTrans k i h
    have hne : sortedFrom (lexB D) k ≠ sortedFrom (lexB D) i := fun e => h.ne (sortedFrom_injective _ e)
    rcases (lexB_total D).total _ _ hne with g | g
    · exact g
    · rw [this] at g; exact absurd g (by decide)

/-- ONE ROUND of the selection. The row holds `⊤` at the positions of ranks below `k` and the keys elsewhere, every key
    below `⊤`; then the first position of the row's least value is the position of rank `k`. -/
theorem round_eq {n : Nat} (D : Fin n → EReal) (hD : ∀ j, D j < ⊤) (k : Fin n) (d : Fin n → EReal)
    (hd : ∀ j, d j = if ∃ k' : Fin n, k' < k ∧ sortedFrom (lexB D) k' = j then ⊤ else D j)
    (i : Fin n) (hmin : ∀ j, d i ≤ d j) (hfirst : ∀ j, d j = d i → i ≤ j) : i = sortedFrom (lexB D) k := by
  have hs : d (sortedFrom (lexB D) k) = D (sortedFrom (lexB D) k) := by
    rw [hd, if_neg]
    rintro ⟨k', h, e⟩
    exact h.ne (sortedFrom_injective _ e)
  have hi : ¬ ∃ k' : Fin n, k' < k ∧ sortedFrom (lexB D) k' = i := by
    intro h
    have h1 : d i = ⊤ := by rw [hd, if_pos h]
    have h2 := hmin (sortedFrom (lexB D) k)
    rw [h1, hs] at h2
    exact absurd (hD (sortedFrom (lexB D) k)) (not_lt.mpr h2)
  have hdi : d i = D i := by rw [hd, if_neg hi]
  rcases sortedFrom_least D k i (fun k' h e => hi ⟨k', h, e⟩) with h | h
  · exact h.symm
  · rw [lexB_iff] at h
    have h2 := hmin (sortedFrom (lexB D) k)
    rw [hdi, hs] at h2
    rcases h with h | ⟨h, g⟩
    · exact absurd h (not_lt.mpr h2)
    · exact absurd (hfirst (sortedFrom (lexB D) k) (by rw [hdi, hs, h])) (not_le.mpr g)

end Cert.TopSel

end
-- ==== Proof.Spec.lean ====
/-
  The scalar functions both programs compute: a residue's atoms with the one placed from the backbone, a distance, a radial
  feature, and a normalized row.
-/
module

public import proofs.«01_k».proof.Proof.Consts
public import proofs.«01_k».proof.Proof.TopSel

@[expose] public section

noncomputable section

namespace Cert.Spec

open Idealize.ShloMosaic Cert.Consts Cert.TopSel

/-- The cross product. -/
def cross (b c : Fin 3 → EReal) (k : Fin 3) : EReal :=
  match k with
  | ⟨0, _⟩ => b 1 * c 2 - b 2 * c 1
  | ⟨1, _⟩ => b 2 * c 0 - b 0 * c 2
  | ⟨2, _⟩ => b 0 * c 1 - b 1 * c 0

/-- The atom placed from the three backbone atoms. -/
def cbeta (x : Fin 6 → Fin 3 → EReal) (k : Fin 3) : EReal :=
  Ideal.ofBits FTy.f32 0xBF152E13#32 * cross (fun k => x 1 k - x 0 k) (fun k => x 2 k - x 1 k) k +
    Ideal.ofBits FTy.f32 0x3F116A4D#32 * (x 1 k - x 0 k) + Ideal.ofBits FTy.f32 0xBF0A69A8#32 * (x 2 k - x 1 k) + x 1 k

/-- A residue's seven atoms: the six it has and the one placed. -/
def atom (x : Fin 6 → Fin 3 → EReal) (a : Fin 7) (k : Fin 3) : EReal :=
  if h : a.val < 6 then x ⟨a.val, h⟩ k else cbeta x k

/-- The distance of two points, its square raised by a small constant. -/
def gap (p q : Fin 3 → EReal) : EReal :=
  Ideal.sqrt ((p 0 - q 0) * (p 0 - q 0) + (p 1 - q 1) * (p 1 - q 1) + (p 2 - q 2) * (p 2 - q 2) +
    Ideal.ofBits FTy.f32 0x358637BD#32)

/-- The representative point of a residue: two of its atoms added. -/
def rep (x : Fin 6 → Fin 3 → EReal) (k : Fin 3) : EReal := x 1 k + x 4 k

/-- The `k`-th column of a row in the order of the key, then the position. -/
def sel (D : Fin 1024 → EReal) (k : Fin 30) : Fin 1024 := sortedFrom (lexB D) (k.castLE (by norm_num))

/-- The `k`-th neighbor of residue `l`. -/
def nbr (X : Fin 1024 → Fin 6 → Fin 3 → EReal) (l : Fin 1024) (k : Fin 30) : Fin 1024 :=
  sel (fun j => gap (rep (X l)) (rep (X j))) k

/-- A radial feature of a distance, with center `2 + 4 r / 3`. -/
def rbf (d : EReal) (r : Fin 16) : EReal :=
  Ideal.exp (0 - (d - (Ideal.ofBits FTy.f32 0x40000000#32 + ((r.val : ℝ) : EReal) * ((4 / 3 : ℝ) : EReal))) * ((4 / 5 : ℝ) : EReal) *
    ((d - (Ideal.ofBits FTy.f32 0x40000000#32 + ((r.val : ℝ) : EReal) * ((4 / 3 : ℝ) : EReal))) * ((4 / 5 : ℝ) : EReal)))

/-- A row's mean. -/
def mean (y : Fin 128 → EReal) : EReal := Ideal.div (∑ c, y c) (Ideal.ofBits FTy.f32 0x43000000#32)

/-- A row normalized, scaled and shifted. -/
def lnorm (y g b : Fin 128 → EReal) (c : Fin 128) : EReal :=
  Ideal.div (y c - mean y) (Ideal.sqrt (mean (fun c => (y c - mean y) * (y c - mean y)) +
    Ideal.ofBits FTy.f32 0x3727C5AC#32)) * g c + b c

/-- The small constant is a real number. -/
theorem eps_lit : ∃ r : ℝ, Ideal.ofBits FTy.f32 0x358637BD#32 = r := by
  refine ⟨8796093 / 8796093022208, ?_⟩
  simp [Ideal.ofBits, Ideal.ieee, -EReal.coe_mul]
  norm_num

/-- One of three values, by a type number. -/
def pick {α : Type} (t : BitVec 32) (a b c : α) : α := if t = 0#32 then a else if t = 1#32 then b else c

/-- The clipped difference of two row numbers, moved up by 32. -/
def bucket (q n : Nat) : Nat := min (q + 32 - n) 64

/-- The clipped difference as the programs compute it on words. -/
theorem bucket_word {q n : Nat} (hq : q < 1024) (hn : n < 1024) :
    IntOp.minsi 64#32 (IntOp.maxsi 0#32 (IntOp.addi (IntOp.subi (BitVec.ofNat 32 q) (BitVec.ofNat 32 n)) 32#32)) =
      BitVec.ofNat 32 (bucket q n) := by
  have e : IntOp.addi (IntOp.subi (BitVec.ofNat 32 q) (BitVec.ofNat 32 n)) 32#32 = BitVec.ofInt 32 ((q : Int) - n + 32) := by
    unfold IntOp.addi IntOp.subi
    apply BitVec.eq_of_toInt_eq
    simp only [BitVec.toInt_add, BitVec.toInt_sub, BitVec.toInt_ofNat', BitVec.toInt_ofInt, Int.bmod_def]
    split_ifs <;> omega
  have hi : (BitVec.ofInt 32 ((q : Int) - n + 32)).toInt = (q : Int) - n + 32 := by
    rw [BitVec.toInt_ofInt, Int.bmod_def]
    split_ifs <;> omega
  rw [e]
  unfold IntOp.minsi IntOp.maxsi bucket
  have c0 : ((BitVec.ofInt 32 ((q : Int) - n + 32)).slt 0#32 = true) ↔ (q : Int) - n + 32 < 0 := by
    rw [BitVec.slt_iff_toInt_lt, hi]; rfl
  have c1 : ((64#32).slt (BitVec.ofInt 32 ((q : Int) - n + 32)) = true) ↔ 64 < (q : Int) - n + 32 := by
    rw [BitVec.slt_iff_toInt_lt, hi]; rfl
  by_cases h0 : (q : Int) - n + 32 < 0
  · rw [if_pos (c0.2 h0), show min (q + 32 - n) 64 = 0 by omega]; rfl
  · rw [if_neg (fun h => h0 (c0.1 h))]
    by_cases h1 : 64 < (q : Int) - n + 32
    · rw [if_pos (c1.2 h1), show min (q + 32 - n) 64 = 64 by omega]
    · rw [if_neg (fun h => h1 (c1.1 h)), show min (q + 32 - n) 64 = q + 32 - n by omega,
        show (q : Int) - n + 32 = ((q + 32 - n : Nat) : Int) by omega, BitVec.ofInt_natCast]

/-- A real number's distance to another is a real number at least zero. -/
theorem gap_lt_top (p q : Fin 3 → EReal) (hp : ∀ k, ∃ r : ℝ, p k = r) (hq : ∀ k, ∃ r : ℝ, q k = r) : gap p q < ⊤ := by
  obtain ⟨s, hs⟩ : ∃ s : ℝ, (p 0 - q 0) * (p 0 - q 0) + (p 1 - q 1) * (p 1 - q 1) + (p 2 - q 2) * (p 2 - q 2) +
      Ideal.ofBits FTy.f32 0x358637BD#32 = s := by
    obtain ⟨a0, h0⟩ := hp 0
    obtain ⟨a1, h1⟩ := hp 1
    obtain ⟨a2, h2⟩ := hp 2
    obtain ⟨b0, k0⟩ := hq 0
    obtain ⟨b1, k1⟩ := hq 1
    obtain ⟨b2, k2⟩ := hq 2
    obtain ⟨e, he⟩ := eps_lit
    rw [h0, h1, h2, k0, k1, k2, he]
    exact ⟨(a0 - b0) * (a0 - b0) + (a1 - b1) * (a1 - b1) + (a2 - b2) * (a2 - b2) + e, by push_cast; rfl⟩
  unfold gap
  rw [hs]
  show (if s < 0 then ⊥ else (Real.sqrt s : EReal)) < ⊤
  split_ifs
  · exact bot_lt_top
  · exact EReal.coe_lt_top _

theorem gap_comm (p q : Fin 3 → EReal) (hp : ∀ k, ∃ r : ℝ, p k = r) (hq : ∀ k, ∃ r : ℝ, q k = r) : gap p q = gap q p := by
  have h : ∀ k, (p k - q k) * (p k - q k) = (q k - p k) * (q k - p k) := by
    intro k
    obtain ⟨a, ha⟩ := hp k
    obtain ⟨b, hb⟩ := hq k
    rw [ha, hb, ← EReal.coe_sub, ← EReal.coe_sub, ← EReal.coe_mul, ← EReal.coe_mul]
    congr 1; ring
  unfold gap
  rw [h 0, h 1, h 2]

/-- The features of the edge from residue `l` to residue `j`: at `16 (7 a + a') + r` the radial feature `r` of the atoms `a`,
    `a'`, at `784 + d` the indicator of the clipped row difference. -/
def feat (X : Fin 1024 → Fin 6 → Fin 3 → EReal) (l j : Fin 1024) (f : Fin 850) : EReal :=
  if f.val < 784 then
    rbf (gap (atom (X l) ⟨f.val / 16 / 7 % 7, by omega⟩) (atom (X j) ⟨f.val / 16 % 7, by omega⟩)) ⟨f.val % 16, by omega⟩
  else if f.val - 784 = bucket l.val j.val then 1 else 0

/-- The weight of a feature: a column of the edge weights, or the position embedding carried through the edge weights. -/
def weight (We : Fin 128 → Fin 1040 → EReal) (pw : Fin 16 → Fin 66 → EReal) (pb : Fin 16 → EReal) (f : Fin 850) (c : Fin 128) :
    EReal :=
  if f.val < 784 then We c ⟨16 + (128 * (f.val / 16 / 7 % 7) + 16 * (f.val / 16 % 7) + f.val % 16), by omega⟩
  else ∑ d : Fin 16, (pw d ⟨(f.val - 784) % 66, by omega⟩ + pb d) * We c ⟨d.val, by omega⟩

/-- An edge's result. -/
def edge (X : Fin 1024 → Fin 6 → Fin 3 → EReal) (We : Fin 128 → Fin 1040 → EReal) (pw : Fin 16 → Fin 66 → EReal)
    (pb : Fin 16 → EReal) (g b : Fin 128 → EReal) (l j : Fin 1024) (c : Fin 128) : EReal :=
  lnorm (fun c => ∑ f : Fin 850, feat X l j f * weight We pw pb f c) g b c

/-- A residue's result. -/
def node (t : BitVec 32) (W : Fin 128 → Fin 3 → EReal) (g b : Fin 128 → EReal) (c : Fin 128) : EReal :=
  lnorm (fun c => pick t (W c 0) (W c 1) (W c 2)) g b c

end Cert.Spec

end
-- ==== Proof.RGather.lean ====
/-
  The reference's gathers along one axis, read at an index, and its bounds checks.
-/
module

public import proofs.«01_k».proof.Proof.Gen.ReferenceIdeal.Read
public import Idealize.ShloMosaic.Lib.Pointwise
public import Idealize.ShloMosaic.Lib.WordCmp

@[expose] public section

set_option maxRecDepth 16384

noncomputable section

namespace Cert.RGather

open Idealize.ShloMosaic Cert.ReferenceIdeal

/-- An and over any axes of an array of ones is one. -/
theorem reduce_ones {s t u : Shape} {axes : List (Fin s.rank)} (x : s.Idx → BitVec 1) (init : u.Idx → BitVec 1)
    (h : s.ReducesTo axes t) (hu : 0 < u.numel) (hx : ∀ i, x i = 1#1) (h0 : ∀ i, init i = 1#1) (j : t.Idx) :
    Host.reduce IntOp.andi x init h hu j = 1#1 := by
  unfold Host.reduce
  rw [h0]
  generalize (List.filter _ _ : List _) = l
  induction l with
  | nil => rfl
  | cons a l ih => rw [List.foldl_cons, hx]; exact ih

/-- A small word is nonnegative, so wrapping it changes nothing. -/
theorem wrap {j : Nat} (hj : j < 1024) :
    Scalar.select (IntOp.cmpi .slt (BitVec.ofNat 32 j) 0#32) (IntOp.addi (BitVec.ofNat 32 j) 1024#32) (BitVec.ofNat 32 j) = BitVec.ofNat 32 j := by
  have h : IntOp.cmpi .slt (BitVec.ofNat 32 j) 0#32 = 0#1 := by
    unfold IntOp.cmpi
    have : (BitVec.ofNat 32 j).slt 0#32 = false := by
      rw [BitVec.slt_eq_decide, decide_eq_false_iff_not, BitVec.toInt_eq_toNat_of_lt (by rw [BitVec.toNat_ofNat]; omega)]
      simp; omega
    simp [this]
  rw [h]
  rfl

/-- A small word passes the bounds check. -/
theorem bounds {j : Nat} (hj : j < 1024) :
    IntOp.andi (IntOp.cmpi .sge (BitVec.ofNat 32 j) 0#32) (IntOp.cmpi .sle (BitVec.ofNat 32 j) 1023#32) = 1#1 := by
  have e : (BitVec.ofNat 32 j).toInt = j := by
    rw [BitVec.toInt_eq_toNat_of_lt (by rw [BitVec.toNat_ofNat]; omega), BitVec.toNat_ofNat, Nat.mod_eq_of_lt (by omega)]
  have h1 : (0#32).sle (BitVec.ofNat 32 j) = true := by
    rw [BitVec.sle_eq_decide, decide_eq_true_iff, e]; simp
  have h2 : (BitVec.ofNat 32 j).sle 1023#32 = true := by
    rw [BitVec.sle_eq_decide, decide_eq_true_iff, e]; simp; omega
  unfold IntOp.cmpi
  simp [h1, h2, IntOp.andi]

/-- A small word read as a position. -/
theorem clamp {j : Nat} (hj : j < 1024) : min (BitVec.ofNat 32 j).toInt.toNat 1023 = j := by
  rw [BitVec.toInt_eq_toNat_of_lt (by rw [BitVec.toNat_ofNat]; omega), BitVec.toNat_ofNat, Nat.mod_eq_of_lt (by omega)]
  simp; omega

section Rows
variable {α : Type} {B N C M : Nat}

/-- The dimension numbers of a gather of rows, batched over the first and the last axis. -/
abbrev rowDims (B N C M : Nat) (wf : GatherDims.WF ⟨3, ![B, N, C]⟩ ⟨4, ![B, M, C, 1]⟩ ⟨3, ![B, M, C]⟩ [] [1] [0, 2] [1] [0, 2] 3 ![1, 1, 1]) :
    GatherDims ⟨3, ![B, N, C]⟩ ⟨4, ![B, M, C, 1]⟩ ⟨3, ![B, M, C]⟩ where
  offsetDims := []
  collapsedSliceDims := [1]
  operandBatchingDims := [0, 2]
  startIndicesBatchingDims := [0, 2]
  startIndexMap := [1]
  indexVectorDim := 3
  sliceSizes := ![1, 1, 1]
  wf := wf

/-- That gather at an index: the row its index word names. -/
theorem rows_apply (hN : 0 < N)
    (wf : GatherDims.WF ⟨3, ![B, N, C]⟩ ⟨4, ![B, M, C, 1]⟩ ⟨3, ![B, M, C]⟩ [] [1] [0, 2] [1] [0, 2] 3 ![1, 1, 1])
    (x : (⟨3, ![B, N, C]⟩ : Shape).Idx → α) (idx : IVec ⟨4, ![B, M, C, 1]⟩ 32) (b : Fin B) (n : Fin M) (c : Fin C) :
    Host.gather (rowDims B N C M wf) x idx (ix3 b n c)
      = x (ix3 b ⟨min (idx (ix4 b n c 0)).toInt.toNat (N - 1), by omega⟩ c) := by
  unfold Host.gather
  congr 1
  funext a
  refine Fin.ext ?_
  show (rowDims B N C M wf).start (ix3 b n c) idx a + (rowDims B N C M wf).batchCoord (ix3 b n c) a
      + (rowDims B N C M wf).offCoord (ix3 b n c) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N C M wf).startIndexMap from List.mem_singleton.mpr rfl)]
    have hsi : (rowDims B N C M wf).siIdx (ix3 b n c) ⟨List.idxOf (1 : Fin 3) (rowDims B N C M wf).startIndexMap,
        List.idxOf_lt_length_iff.2 (List.mem_singleton.mpr rfl)⟩ = ix4 b n c 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl

end Rows

section Pairs
variable {α : Type} {B Q N K : Nat}

/-- The dimension numbers of a gather of a table's columns, batched over its first two axes. -/
abbrev colDims (B Q N K : Nat) (wf : GatherDims.WF ⟨4, ![B, Q, N, 1]⟩ ⟨4, ![B, Q, K, 1]⟩ ⟨4, ![B, Q, K, 1]⟩ [3] [2] [0, 1] [2] [0, 1] 3 ![1, 1, 1, 1]) :
    GatherDims ⟨4, ![B, Q, N, 1]⟩ ⟨4, ![B, Q, K, 1]⟩ ⟨4, ![B, Q, K, 1]⟩ where
  offsetDims := [3]
  collapsedSliceDims := [2]
  operandBatchingDims := [0, 1]
  startIndicesBatchingDims := [0, 1]
  startIndexMap := [2]
  indexVectorDim := 3
  sliceSizes := ![1, 1, 1, 1]
  wf := wf

/-- That gather at an index: the column its index word names. -/
theorem cols_apply (hN : 0 < N)
    (wf : GatherDims.WF ⟨4, ![B, Q, N, 1]⟩ ⟨4, ![B, Q, K, 1]⟩ ⟨4, ![B, Q, K, 1]⟩ [3] [2] [0, 1] [2] [0, 1] 3 ![1, 1, 1, 1])
    (x : (⟨4, ![B, Q, N, 1]⟩ : Shape).Idx → α) (idx : IVec ⟨4, ![B, Q, K, 1]⟩ 32) (b : Fin B) (q : Fin Q) (k : Fin K) :
    Host.gather (colDims B Q N K wf) x idx (ix4 b q k 0)
      = x (ix4 b q ⟨min (idx (ix4 b q k 0)).toInt.toNat (N - 1), by omega⟩ 0) := by
  unfold Host.gather
  congr 1
  funext a
  refine Fin.ext ?_
  show (colDims B Q N K wf).start (ix4 b q k 0) idx a + (colDims B Q N K wf).batchCoord (ix4 b q k 0) a
      + (colDims B Q N K wf).offCoord (ix4 b q k 0) a = _
  have h01 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h01 with rfl | rfl | rfl | rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (colDims B Q N K wf).startIndexMap from List.mem_singleton.mpr rfl)]
    have hsi : (colDims B Q N K wf).siIdx (ix4 b q k 0) ⟨List.idxOf (2 : Fin 4) (colDims B Q N K wf).startIndexMap,
        List.idxOf_lt_length_iff.2 (List.mem_singleton.mpr rfl)⟩ = ix4 b q k 0 := by
      funext b; refine Fin.ext ?_
      match b with
      | ⟨0, _⟩ => rfl
      | ⟨1, _⟩ => rfl
      | ⟨2, _⟩ => rfl
      | ⟨3, _⟩ => rfl
    rw [hsi]
    rfl
  · have h := ((colDims B Q N K wf).operandIdx (ix4 b q k 0) idx 3).isLt
    have h' : (colDims B Q N K wf).start (ix4 b q k 0) idx 3 + (colDims B Q N K wf).batchCoord (ix4 b q k 0) 3
      + (colDims B Q N K wf).offCoord (ix4 b q k 0) 3 < 1 := h
    show _ = 0
    omega

end Pairs

end Cert.RGather
end
-- ==== Proof.RNode.lean ====
/-
  The reference's first result at an index: the picked rows, normalized.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.RNode

open Idealize.ShloMosaic Cert.ReferenceIdeal Cert.ReferenceIdeal.Read Cert.Consts Cert.Spec

/-- A comparison's bit as a float. -/
theorem hot {w : Nat} (x y : BitVec w) : (FloatOps.uitofp (F := Ideal) FTy.f32 (IntOp.cmpi .eq x y) : EReal) = if x = y then 1 else 0 := by
  show (((IntOp.cmpi .eq x y).toNat : ℝ) : EReal) = _
  unfold IntOp.cmpi
  by_cases h : x = y
  · simp [h]
  · have hb : (x == y) = false := by simpa using h
    rw [if_neg h]
    simp [hb]

/-- The product with a one-hot row picks a column. -/
theorem v205 (x8 : Vec Ideal S2x1024 .i32) (x9 : Vec Ideal S128x3 .f32) (b : Fin 2) (l : Fin 1024) (c : Fin 128)
    (h : x8 (ix2 b l) = 0#32 ∨ x8 (ix2 b l) = 1#32 ∨ x8 (ix2 b l) = 2#32) :
    val_main_v205 (F := Ideal) x8 x9 (ix3 b l c) =
      (pick (x8 (ix2 b l)) (x9 (ix2 c 0)) (x9 (ix2 c 1)) (x9 (ix2 c 2)) : EReal) := by
  pointwise [val_main_v205, val_main_v204, val_main_v203, val_main_call7_v4, val_main_call7_v3, val_main_call7_v2, val_main_call7_v1, val_main_call7_v0]
  rw [Fin.sum_univ_three]
  simp only [hot]
  rcases h with h | h | h <;> rw [h] <;> simp [pick]

theorem v229 (x8 : Vec Ideal S2x1024 .i32) (x9 : Vec Ideal S128x3 .f32) (x11 x12 : Vec Ideal S128 .f32) (b : Fin 2) (l : Fin 1024)
    (c : Fin 128) (h : x8 (ix2 b l) = 0#32 ∨ x8 (ix2 b l) = 1#32 ∨ x8 (ix2 b l) = 2#32) :
    val_main_v229 (F := Ideal) x8 x9 x11 x12 (ix3 b l c) =
      node (x8 (ix2 b l)) (fun e f => x9 (ix2 e f)) (fun e => x11 (ix1 e)) (fun e => x12 (ix1 e)) c := by
  pointwise [val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_cst_24, val_main_cst_25, val_main_cst_26, val_main_cst_27, val_main_cst_28]
  simp only [v205 x8 x9 b l _ h]
  rfl

end Cert.RNode
end
-- ==== Proof.RSel.lean ====
/-
  The reference's neighbor list at an index.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.RSel

open Idealize.ShloMosaic Cert.ReferenceIdeal Cert.ReferenceIdeal.Read Cert.Consts Cert.Spec Cert.TopSel

/-- A residue's coordinates in one batch of the argument. -/
def crd (x0 : Vec Ideal S2x1024x6x3 .f32) (b : Fin 2) : Fin 1024 → Fin 6 → Fin 3 → EReal := fun l a k => x0 (ix4 b l a k)

theorem rep_real (x0 : Vec Ideal S2x1024x6x3 .f32) (hX : ∀ b l a k, ∃ r : ℝ, x0 (ix4 b l a k) = (r : EReal)) (b : Fin 2) (l : Fin 1024)
    (k : Fin 3) : ∃ r : ℝ, rep (crd x0 b l) k = r := by
  obtain ⟨u, hu⟩ := hX b l 1 k
  obtain ⟨v, hv⟩ := hX b l 4 k
  exact ⟨u + v, by rw [rep, crd, crd, hu, hv, EReal.coe_add]⟩

/-- The negated distance, where no residue is masked. -/
theorem v99 (x0 : Vec Ideal S2x1024x6x3 .f32) (x1 : Vec Ideal S2x1024 .f32)
    (hX : ∀ b l a k, ∃ r : ℝ, x0 (ix4 b l a k) = (r : EReal)) (h1 : ∀ b l, x1 (ix2 b l) = (1 : EReal)) (b : Fin 2) (q j : Fin 1024) :
    val_main_v99 (F := Ideal) x0 x1 (ix3 b q j) = (-gap (rep (crd x0 b q)) (rep (crd x0 b j)) : EReal) := by
  pointwise [val_main_v99, val_main_v98, val_main_v97, val_main_v96, val_main_v95, val_main_v94, val_main_cst_8, val_main_v93, val_main_v91, val_main_v90, val_main_v89, val_main_v88, val_main_cst_6, val_main_v87, val_main_cst_5, val_main_v86, val_main_v85, val_main_v84, val_main_v83, val_main_v82, val_main_v81, val_main_v80, val_main_v79, val_main_v78, val_main_v77, val_main_v76, val_main_v75, val_main_v34, val_main_v33, val_main_v3, val_main_v2]
  rw [h1, h1, one_mul, one_mul, show (1 : EReal) - 1 = 0 by rw [← EReal.coe_one, ← EReal.coe_sub, sub_self, EReal.coe_zero], zero_mul, add_zero,
    gap_comm _ _ (rep_real x0 hX b q) (rep_real x0 hX b j), Fin.sum_univ_three]
  rfl

/-- An index with its last coordinate replaced. -/
theorem along_last (b : Fin 2) (q x y : Fin 1024) :
    (ix3 b q x : S2x1024x1024.Idx).along 2 y = (ix3 b q y : S2x1024x1024.Idx) := by
  funext a
  match a with
  | ⟨0, _⟩ => rfl
  | ⟨1, _⟩ => rfl
  | ⟨2, _⟩ => rfl

/-- The neighbor list before its order is identified. -/
theorem indices_sort (x0 : Vec Ideal S2x1024x6x3 .f32) (x1 : Vec Ideal S2x1024 .f32) (b : Fin 2) (q : Fin 1024) (k : Fin 30) :
    val_main_indices (F := Ideal) x0 x1 (ix3 b q k) =
      BitVec.ofNat 32 (sortedFrom (n := 1024) (fun a a' : Fin 1024 => Ideal.cmp CmpDirection.gt.ordered
        (val_main_v99 (F := Ideal) x0 x1 (ix3 b q a)) (val_main_v99 (F := Ideal) x0 x1 (ix3 b q a')) == 1#1) (k.castLE (by norm_num))).val := by
  have e : (ix3 b q (k.castLE (by norm_num)) : S2x1024x1024.Idx) =
      fun a => ⟨0 + ((ix3 b q k : S2x1024x30.Idx) a).val, by
        match a with
        | ⟨0, _⟩ => have := b.isLt; show 0 + b.val < 2; omega
        | ⟨1, _⟩ => have := q.isLt; show 0 + q.val < 1024; omega
        | ⟨2, _⟩ => have := k.isLt; show 0 + k.val < 1024; omega⟩ := by
    funext a
    match a with
    | ⟨0, _⟩ => exact Fin.ext (Nat.zero_add _).symm
    | ⟨1, _⟩ => exact Fin.ext (Nat.zero_add _).symm
    | ⟨2, _⟩ => exact Fin.ext (Nat.zero_add _).symm
  have h := congrArg (fun i : S2x1024x1024.Idx => (Host.sort2 S2x1024x1024 2 (fun l r : EReal × BitVec 32 => Ideal.cmp CmpDirection.gt.ordered l.1 r.1)
    (val_main_v99 (F := Ideal) x0 x1) (iotaInDim S2x1024x1024 32 2)).2 i) e
  refine Eq.trans (show _ = _ from h.symm) ?_
  have e2 : ∀ y : Fin 1024, (ix3 b q (k.castLE (by norm_num)) : S2x1024x1024.Idx).along 2 y = ix3 b q y := fun y => along_last b q _ y
  show iotaInDim S2x1024x1024 32 2 ((ix3 b q (k.castLE (by norm_num)) : S2x1024x1024.Idx).along 2 (sortedFrom (n := 1024) (fun a a' : Fin 1024 =>
    Ideal.cmp CmpDirection.gt.ordered (val_main_v99 (F := Ideal) x0 x1 ((ix3 b q (k.castLE (by norm_num)) : S2x1024x1024.Idx).along 2 a))
      (val_main_v99 (F := Ideal) x0 x1 ((ix3 b q (k.castLE (by norm_num)) : S2x1024x1024.Idx).along 2 a')) == 1#1) (k.castLE (by norm_num)))) = _
  simp only [e2]
  rfl

/-- The neighbor list. -/
theorem indices (x0 : Vec Ideal S2x1024x6x3 .f32) (x1 : Vec Ideal S2x1024 .f32)
    (hX : ∀ b l a k, ∃ r : ℝ, x0 (ix4 b l a k) = (r : EReal)) (h1 : ∀ b l, x1 (ix2 b l) = (1 : EReal)) (b : Fin 2) (q : Fin 1024) (k : Fin 30) :
    val_main_indices (F := Ideal) x0 x1 (ix3 b q k) = BitVec.ofNat 32 (nbr (crd x0 b) q k).val := by
  rw [indices_sort]
  unfold nbr sel
  rw [sortedFrom_key_eq_lex (fun j => gap (rep (crd x0 b q)) (rep (crd x0 b j))) _ ?_]
  intro a a'
  rw [v99 x0 x1 hX h1, v99 x0 x1 hX h1]
  simp only [CmpDirection.ordered, Ideal.cmp, EReal.neg_lt_neg_iff]
  by_cases h : gap (rep (crd x0 b q)) (rep (crd x0 b a)) < gap (rep (crd x0 b q)) (rep (crd x0 b a')) <;> simp [h]

/-- The third result: the neighbor list with its query axis cut in 16 blocks. -/
theorem v231 (x0 : Vec Ideal S2x1024x6x3 .f32) (x1 : Vec Ideal S2x1024 .f32) (i : S2x16x64x30.Idx) (q : Fin 1024) (hq : q.val = (i 1).val * 64 + (i 2).val) :
    val_main_v231 (F := Ideal) x0 x1 i = val_main_indices (F := Ideal) x0 x1 (ix3 (i 0) q (i 3)) := by
  rw [val_main_v231_apply]
  refine congrArg (val_main_indices (F := Ideal) x0 x1) (funext fun a => Fin.ext ?_)
  have h0 : (i 0).val < 2 := (i 0).isLt
  have h1 : (i 1).val < 16 := (i 1).isLt
  have h2 : (i 2).val < 64 := (i 2).isLt
  have h3 : (i 3).val < 30 := (i 3).isLt
  match a with
  | ⟨0, _⟩ => show ((((i 0).val * 16 + (i 1).val) * 64 + (i 2).val) * 30 + (i 3).val) / 30720 = (i 0).val; omega
  | ⟨1, _⟩ => show ((((i 0).val * 16 + (i 1).val) * 64 + (i 2).val) * 30 + (i 3).val) / 30 % 1024 = q.val; omega
  | ⟨2, _⟩ => show ((((i 0).val * 16 + (i 1).val) * 64 + (i 2).val) * 30 + (i 3).val) % 30 = (i 3).val; omega

end Cert.RSel
end
-- ==== Proof.RFeat.lean ====
/-
  The reference's edge features at an index: the gathers, the radial features and the position term.
-/
module

public import proofs.«01_k».proof.Proof.Gen.ReferenceIdeal.Read
public import proofs.«01_k».proof.Proof.Spec
public import proofs.«01_k».proof.Proof.RGather
public import proofs.«01_k».proof.Proof.RNode
public import proofs.«01_k».proof.Proof.RSel
public import Idealize.ShloMosaic.Lib.Pointwise

@[expose] public section

set_option maxRecDepth 16384

noncomputable section

namespace Cert.RFeat

open Idealize.ShloMosaic Cert.ReferenceIdeal Cert.ReferenceIdeal.Read Cert.Consts Cert.Spec Cert.RGather Cert.RNode Cert.RSel

/-- A set bit selects the first value. -/
theorem select_one {α : Type} (a b : α) : Scalar.select 1#1 a b = a := rfl

/-- The placed atom. -/
theorem v32 (x0 : Vec Ideal S2x1024x6x3 .f32) (b : Fin 2) (l : Fin 1024) (x : Fin 3) :
    val_main_v32 (F := Ideal) x0 (ix3 b l x) = cbeta (crd x0 b l) x := by
  have h : val_main_v23 (F := Ideal) x0 (ix3 b l x) =
      cross (fun k => crd x0 b l 1 k - crd x0 b l 0 k) (fun k => crd x0 b l 2 k - crd x0 b l 1 k) x := by
    match x with
    | ⟨0, _⟩ =>
      show val_main_v23 (F := Ideal) x0 (ix3 b l 0) = _
      pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
      rfl
    | ⟨1, _⟩ =>
      show val_main_v23 (F := Ideal) x0 (ix3 b l 1) = _
      pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
      rfl
    | ⟨2, _⟩ =>
      show val_main_v23 (F := Ideal) x0 (ix3 b l 2) = _
      pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
      rfl
  pointwise [val_main_v32, val_main_v31, val_main_v30, val_main_v29, val_main_v28, val_main_v27, val_main_v26, val_main_v25, val_main_v24, val_main_cst, val_main_cst_0, val_main_cst_1, val_main_v7, val_main_v6, val_main_v5, val_main_v4, val_main_v3, val_main_v2, val_main_v1, val_main_v0]
  rw [h]
  rfl

/-- The first seven atoms of the padded atom table. -/
theorem v70 (x0 : Vec Ideal S2x1024x6x3 .f32) (b : Fin 2) (l : Fin 1024) (a : Fin 8) (ha : a.val < 7) (x : Fin 3) :
    val_main_v70 (F := Ideal) x0 (ix4 b l a x) = atom (crd x0 b l) ⟨a.val, ha⟩ x := by
  unfold atom
  by_cases h : a.val < 6
  · rw [dif_pos h]
    pointwise [val_main_v70]
    rw [dif_pos h]
    rfl
  · obtain rfl : a = 6 := Fin.ext (by show a.val = 6; omega)
    rw [dif_neg h, ← v32]
    pointwise [val_main_v70, val_main_v68]

/-- The atom mask: the first seven present, the last absent. -/
theorem v74 (x4 : Vec Ideal S2x1024x6 .f32) (x5 x6 x7 : Vec Ideal S2x1024 .f32) (h4 : ∀ b l a, x4 (ix3 b l a) = (1 : EReal))
    (h5 : ∀ b l, x5 (ix2 b l) = (1 : EReal)) (h6 : ∀ b l, x6 (ix2 b l) = (0 : EReal)) (h7 : ∀ b l, x7 (ix2 b l) = (0 : EReal))
    (b : Fin 2) (l : Fin 1024) (a : Fin 8) :
    val_main_v74 (F := Ideal) x4 x5 x6 x7 (ix3 b l a) = (if a.val < 7 then 1 else 0 : EReal) := by
  pointwise [val_main_v74, val_main_v73, val_main_v72, val_main_v71]
  by_cases h : a.val < 6
  · rw [dif_pos h, h4, if_pos (by omega)]
  · by_cases h' : a.val - 6 < 1
    · rw [dif_neg h, dif_pos h', h5, if_pos (by omega)]
    · rw [dif_neg h, dif_neg h', h6, h7, if_neg (by omega), add_zero]

section Nbr
variable (x0 : Vec Ideal S2x1024x6x3 .f32) (x1 : Vec Ideal S2x1024 .f32) (N : Fin 2 → Fin 1024 → Fin 30 → Fin 1024)
  (hN : ∀ b q k, val_main_indices (F := Ideal) x0 x1 (ix3 b q k) = BitVec.ofNat 32 (N b q k).val)
include hN

theorem v5a (b : Fin 2) (n : Fin 30720) (c : Fin 24) :
    val_main_call0_v5 (F := Ideal) x0 x1 (ix4 b n c 0) = BitVec.ofNat 32 (N b ⟨n.val / 30, by omega⟩ ⟨n.val % 30, by omega⟩).val := by
  pointwise [val_main_call0_v5, val_main_call0_v4, val_main_call0_v3, val_main_call0_v2, val_main_call0_v1, val_main_call0_v0, val_main_call0_c, val_main_call0_c_0, val_main_v103, val_main_v102, val_main_v101]
  rw [hN]
  exact wrap (N _ _ _).isLt

theorem v5b (b : Fin 2) (n : Fin 30720) (c : Fin 8) :
    val_main_call2_v5 (F := Ideal) x0 x1 (ix4 b n c 0) = BitVec.ofNat 32 (N b ⟨n.val / 30, by omega⟩ ⟨n.val % 30, by omega⟩).val := by
  pointwise [val_main_call2_v5, val_main_call2_v4, val_main_call2_v3, val_main_call2_v2, val_main_call2_v1, val_main_call2_v0, val_main_call2_c, val_main_call2_c_0, val_main_v130, val_main_v129, val_main_v128]
  rw [hN]
  exact wrap (N _ _ _).isLt

theorem v4c (b : Fin 2) (q : Fin 1024) (k : Fin 30) :
    val_main_call3_v4 (F := Ideal) x0 x1 (ix4 b q k 0) = BitVec.ofNat 32 (N b q k).val := by
  pointwise [val_main_call3_v4, val_main_call3_v3, val_main_call3_v2, val_main_call3_v1, val_main_call3_v0, val_main_call3_c, val_main_call3_c_0, val_main_v146]
  rw [hN]
  exact wrap (N _ _ _).isLt

theorem v4d (b : Fin 2) (q : Fin 1024) (k : Fin 30) :
    val_main_call4_v4 (F := Ideal) x0 x1 (ix4 b q k 0) = BitVec.ofNat 32 (N b q k).val := by
  pointwise [val_main_call4_v4, val_main_call4_v3, val_main_call4_v2, val_main_call4_v1, val_main_call4_v0, val_main_call4_c, val_main_call4_c_0, val_main_v158]
  rw [hN]
  exact wrap (N _ _ _).isLt

/-- The neighbor's atoms. -/
theorem v104 (b : Fin 2) (n : Fin 30720) (c : Fin 24) :
    val_main_v104 (F := Ideal) x0 x1 (ix3 b n c) =
      val_main_v100 (F := Ideal) x0 (ix3 b (N b ⟨n.val / 30, by omega⟩ ⟨n.val % 30, by omega⟩) c) := by
  have h : val_main_call0_v12 (F := Ideal) x0 x1 (ix3 b n c) = 1#1 := by
    refine reduce_ones _ _ _ _ (fun i => ?_) (fun _ => rfl) _
    obtain ⟨b, n, c, z, rfl⟩ : ∃ b n c z, i = ix4 b n c z := ⟨i 0, i 1, i 2, i 3, by funext a; match a with | ⟨0, _⟩ => rfl | ⟨1, _⟩ => rfl | ⟨2, _⟩ => rfl | ⟨3, _⟩ => rfl⟩
    obtain rfl : z = 0 := Subsingleton.elim _ _
    pointwise [val_main_call0_v11, val_main_call0_v10, val_main_call0_v9, val_main_call0_v8, val_main_call0_v7, val_main_call0_v6, val_main_call0_c_1, val_main_call0_c_2]
    rw [v5a x0 x1 N hN]
    exact bounds (N _ _ _).isLt
  have g : val_main_call0_v13 (F := Ideal) x0 x1 (ix3 b n c) =
      val_main_v100 (F := Ideal) x0 (ix3 b (N b ⟨n.val / 30, by omega⟩ ⟨n.val % 30, by omega⟩) c) := by
    refine (rows_apply (B := 2) (N := 1024) (C := 24) (M := 30720) (by norm_num) _ (val_main_v100 (F := Ideal) x0) (val_main_call0_v5 (F := Ideal) x0 x1) b n c).trans ?_
    refine congrArg (fun j => val_main_v100 (F := Ideal) x0 (ix3 b j c)) (Fin.ext ?_)
    show min (val_main_call0_v5 (F := Ideal) x0 x1 (ix4 b n c 0)).toInt.toNat 1023 = _
    rw [v5a x0 x1 N hN, clamp (N _ _ _).isLt]
  pointwise [val_main_v104]
  rw [h, g]
  exact select_one _ _

/-- The neighbor's atom mask. -/
theorem v131 (x4 : Vec Ideal S2x1024x6 .f32) (x5 x6 x7 : Vec Ideal S2x1024 .f32) (b : Fin 2) (n : Fin 30720) (c : Fin 8) :
    val_main_v131 (F := Ideal) x0 x1 x4 x5 x6 x7 (ix3 b n c) =
      val_main_v74 (F := Ideal) x4 x5 x6 x7 (ix3 b (N b ⟨n.val / 30, by omega⟩ ⟨n.val % 30, by omega⟩) c) := by
  have h : val_main_call2_v12 (F := Ideal) x0 x1 (ix3 b n c) = 1#1 := by
    refine reduce_ones _ _ _ _ (fun i => ?_) (fun _ => rfl) _
    obtain ⟨b, n, c, z, rfl⟩ : ∃ b n c z, i = ix4 b n c z := ⟨i 0, i 1, i 2, i 3, by funext a; match a with | ⟨0, _⟩ => rfl | ⟨1, _⟩ => rfl | ⟨2, _⟩ => rfl | ⟨3, _⟩ => rfl⟩
    obtain rfl : z = 0 := Subsingleton.elim _ _
    pointwise [val_main_call2_v11, val_main_call2_v10, val_main_call2_v9, val_main_call2_v8, val_main_call2_v7, val_main_call2_v6, val_main_call2_c_1, val_main_call2_c_2]
    rw [v5b x0 x1 N hN]
    exact bounds (N _ _ _).isLt
  have g : val_main_call2_v13 (F := Ideal) x0 x1 x4 x5 x6 x7 (ix3 b n c) =
      val_main_v74 (F := Ideal) x4 x5 x6 x7 (ix3 b (N b ⟨n.val / 30, by omega⟩ ⟨n.val % 30, by omega⟩) c) := by
    refine (rows_apply (B := 2) (N := 1024) (C := 8) (M := 30720) (by norm_num) _ (val_main_v74 (F := Ideal) x4 x5 x6 x7) (val_main_call2_v5 (F := Ideal) x0 x1) b n c).trans ?_
    refine congrArg (fun j => val_main_v74 (F := Ideal) x4 x5 x6 x7 (ix3 b j c)) (Fin.ext ?_)
    show min (val_main_call2_v5 (F := Ideal) x0 x1 (ix4 b n c 0)).toInt.toNat 1023 = _
    rw [v5b x0 x1 N hN, clamp (N _ _ _).isLt]
  pointwise [val_main_v131]
  rw [h, g]
  exact select_one _ _

/-- The difference of the two residue numbers. -/
theorem v147 (x2 : Vec Ideal S2x1024 .i32) (b : Fin 2) (q : Fin 1024) (k : Fin 30) :
    val_main_v147 (F := Ideal) x0 x1 x2 (ix4 b q k 0) = IntOp.subi (x2 (ix2 b q)) (x2 (ix2 b (N b q k))) := by
  have h : val_main_call3_v11 (F := Ideal) x0 x1 (ix3 b q k) = 1#1 := by
    refine reduce_ones _ _ _ _ (fun i => ?_) (fun _ => rfl) _
    obtain ⟨b, n, c, z, rfl⟩ : ∃ b n c z, i = ix4 b n c z := ⟨i 0, i 1, i 2, i 3, by funext a; match a with | ⟨0, _⟩ => rfl | ⟨1, _⟩ => rfl | ⟨2, _⟩ => rfl | ⟨3, _⟩ => rfl⟩
    obtain rfl : z = 0 := Subsingleton.elim _ _
    pointwise [val_main_call3_v10, val_main_call3_v9, val_main_call3_v8, val_main_call3_v7, val_main_call3_v6, val_main_call3_v5, val_main_call3_c_1, val_main_call3_c_2]
    rw [v4c x0 x1 N hN]
    exact bounds (N _ _ _).isLt
  have g : val_main_call3_v12 (F := Ideal) x0 x1 x2 (ix4 b q k 0) = val_main_v145 (F := Ideal) x2 (ix4 b q (N b q k) 0) := by
    refine (cols_apply (B := 2) (Q := 1024) (N := 1024) (K := 30) (by norm_num) _ (val_main_v145 (F := Ideal) x2) (val_main_call3_v4 (F := Ideal) x0 x1) b q k).trans ?_
    refine congrArg (fun j => val_main_v145 (F := Ideal) x2 (ix4 b q j 0)) (Fin.ext ?_)
    show min (val_main_call3_v4 (F := Ideal) x0 x1 (ix4 b q k 0)).toInt.toNat 1023 = _
    rw [v4c x0 x1 N hN, clamp (N _ _ _).isLt]
  have e : val_main_call3_v13 (F := Ideal) x0 x1 (ix4 b q k 0) = 1#1 := by
    pointwise [val_main_call3_v13]
    exact h
  pointwise [val_main_v147]
  rw [e, g, select_one]
  show val_main_v145 (F := Ideal) x2 (ix4 b q (N b q k) 0) = _
  pointwise [val_main_v140, val_main_v141, val_main_v142, val_main_v143, val_main_v144, val_main_v145]

/-- Every pair of residues lies in one chain. -/
theorem v159 (x3 : Vec Ideal S2x1024 .i32) (h3 : ∀ b l, x3 (ix2 b l) = 0#32) (b : Fin 2) (q : Fin 1024) (k : Fin 30) :
    val_main_v159 (F := Ideal) x0 x1 x3 (ix4 b q k 0) = 1#32 := by
  have h : val_main_call4_v11 (F := Ideal) x0 x1 (ix3 b q k) = 1#1 := by
    refine reduce_ones _ _ _ _ (fun i => ?_) (fun _ => rfl) _
    obtain ⟨b, n, c, z, rfl⟩ : ∃ b n c z, i = ix4 b n c z := ⟨i 0, i 1, i 2, i 3, by funext a; match a with | ⟨0, _⟩ => rfl | ⟨1, _⟩ => rfl | ⟨2, _⟩ => rfl | ⟨3, _⟩ => rfl⟩
    obtain rfl : z = 0 := Subsingleton.elim _ _
    pointwise [val_main_call4_v10, val_main_call4_v9, val_main_call4_v8, val_main_call4_v7, val_main_call4_v6, val_main_call4_v5, val_main_call4_c_1, val_main_call4_c_2]
    rw [v4d x0 x1 N hN]
    exact bounds (N _ _ _).isLt
  have g : val_main_call4_v12 (F := Ideal) x0 x1 x3 (ix4 b q k 0) = val_main_v157 (F := Ideal) x3 (ix4 b q (N b q k) 0) := by
    refine (cols_apply (B := 2) (Q := 1024) (N := 1024) (K := 30) (by norm_num) _ (val_main_v157 (F := Ideal) x3) (val_main_call4_v4 (F := Ideal) x0 x1) b q k).trans ?_
    refine congrArg (fun j => val_main_v157 (F := Ideal) x3 (ix4 b q j 0)) (Fin.ext ?_)
    show min (val_main_call4_v4 (F := Ideal) x0 x1 (ix4 b q k 0)).toInt.toNat 1023 = _
    rw [v4d x0 x1 N hN, clamp (N _ _ _).isLt]
  have e : val_main_call4_v13 (F := Ideal) x0 x1 (ix4 b q k 0) = 1#1 := by
    pointwise [val_main_call4_v13]
    exact h
  pointwise [val_main_v159]
  rw [e, g, select_one]
  show val_main_v157 (F := Ideal) x3 (ix4 b q (N b q k) 0) = _
  pointwise [val_main_v157, val_main_v156, val_main_v155, val_main_v154, val_main_v153, val_main_v152, val_main_v151, val_main_v150, val_main_v149, val_main_c]
  rw [h3, h3]
  rfl

/-- The position class of a pair. -/
theorem v169 (x2 x3 : Vec Ideal S2x1024 .i32) (h2 : ∀ (b : Fin 2) (l : Fin 1024), x2 (ix2 b l) = BitVec.ofNat 32 (b.val * 1024 + l.val))
    (h3 : ∀ b l, x3 (ix2 b l) = 0#32) (b : Fin 2) (q : Fin 1024) (k : Fin 30) :
    val_main_v169 (F := Ideal) x0 x1 x2 x3 (ix3 b q k) = BitVec.ofNat 32 (bucket q.val (N b q k).val) := by
  pointwise [val_main_v169, val_main_v168, val_main_v167, val_main_v166, val_main_v165, val_main_v164, val_main_v163, val_main_v162, val_main_v161, val_main_v160, val_main_v148, val_main_c_14, val_main_c_15, val_main_c_16, val_main_c_17, val_main_c_18, val_main_call5_v0, val_main_call5_v1, val_main_call5_v2, val_main_call5_v3, val_main_call5_v4]
  rw [v147 x0 x1 N hN, v159 x0 x1 N hN x3 h3, h2, h2]
  have e : IntOp.subi (BitVec.ofNat 32 (b.val * 1024 + q.val)) (BitVec.ofNat 32 (b.val * 1024 + (N b q k).val)) =
      IntOp.subi (BitVec.ofNat 32 q.val) (BitVec.ofNat 32 (N b q k).val) := by
    have hb := b.isLt
    have hq := q.isLt
    have hn := (N b q k).isLt
    unfold IntOp.subi
    apply BitVec.eq_of_toNat_eq
    simp only [BitVec.toNat_sub, BitVec.toNat_ofNat]
    omega
  rw [e]
  have w := bucket_word q.isLt (N b q k).isLt
  show IntOp.addi (IntOp.muli (IntOp.minsi 64#32 (IntOp.maxsi 0#32 (IntOp.addi (IntOp.subi (BitVec.ofNat 32 q.val) (BitVec.ofNat 32 (N b q k).val)) 32#32))) 1#32)
    (IntOp.muli (IntOp.subi 1#32 1#32) 65#32) = _
  rw [w]
  simp [IntOp.addi, IntOp.muli, IntOp.subi]

/-- The position term. -/
theorem v175 (x2 x3 : Vec Ideal S2x1024 .i32) (x15 : Vec Ideal S16x66 .f32) (x16 : Vec Ideal S16 .f32)
    (h2 : ∀ (b : Fin 2) (l : Fin 1024), x2 (ix2 b l) = BitVec.ofNat 32 (b.val * 1024 + l.val))
    (h3 : ∀ b l, x3 (ix2 b l) = 0#32) (b : Fin 2) (q : Fin 1024) (k : Fin 30) (c : Fin 16) :
    val_main_v175 (F := Ideal) x0 x1 x2 x3 x15 x16 (ix4 b q k c) =
      (x15 (ix2 c ⟨bucket q.val (N b q k).val, by unfold bucket; omega⟩) + x16 (ix1 c) : EReal) := by
  pointwise [val_main_v175, val_main_v174, val_main_v173, val_main_v172, val_main_v171, val_main_v170, val_main_call6_v4, val_main_call6_v3, val_main_call6_v2, val_main_call6_v1, val_main_call6_v0]
  rw [v169 x0 x1 N hN x2 x3 h2 h3]
  simp only [hot]
  congr 1
  rw [Finset.sum_eq_single (⟨bucket q.val (N b q k).val, by unfold bucket; omega⟩ : Fin 66)]
  · rw [if_pos rfl, one_mul]
  · intro y _ hy
    rw [if_neg, zero_mul]
    intro h
    apply hy
    have h' := congrArg BitVec.toNat h
    have hB : bucket q.val (N b q k).val ≤ 64 := by unfold bucket; omega
    have hy' := y.isLt
    rw [BitVec.toNat_ofNat, BitVec.toNat_ofNat, Nat.mod_eq_of_lt (by omega), Nat.mod_eq_of_lt (by omega)] at h'
    exact Fin.ext h'.symm
  · intro h; exact absurd (Finset.mem_univ _) h

/-- The distance of two atoms. -/
theorem v116 (b : Fin 2) (q : Fin 1024) (k : Fin 30) (a a' : Fin 8) (ha : a.val < 7) (ha' : a'.val < 7) :
    val_main_v116 (F := Ideal) x0 x1 (ix5 b q k a a') =
      gap (atom (crd x0 b q) ⟨a.val, ha⟩) (atom (crd x0 b (N b q k)) ⟨a'.val, ha'⟩) := by
  have hj : ∀ x : Fin 3, val_main_v112 (F := Ideal) x0 x1 (ix6 b q k a a' x) =
      ((atom (crd x0 b q) ⟨a.val, ha⟩ x - atom (crd x0 b (N b q k)) ⟨a'.val, ha'⟩ x) *
       (atom (crd x0 b q) ⟨a.val, ha⟩ x - atom (crd x0 b (N b q k)) ⟨a'.val, ha'⟩ x) : EReal) := by
    intro x
    pointwise [val_main_v112, val_main_v111, val_main_v110, val_main_v109, val_main_v108, val_main_v107, val_main_v106, val_main_v105]
    rw [v104 x0 x1 N hN]
    pointwise [val_main_v100]
    rw [v70 x0 b q a ha x, ← v70 x0 b (N b q k) a' ha' x]
    have e : ∀ (l l' : Fin 1024) (c c' : Fin 8) (x x' : Fin 3), l = l' → c = c' → x = x' →
      val_main_v70 (F := Ideal) x0 (ix4 b l c x) = val_main_v70 (F := Ideal) x0 (ix4 b l' c' x') := by
      rintro l _ c _ x _ rfl rfl rfl; rfl
    have eN : ∀ (l l' : Fin 1024) (k k' : Fin 30), l = l' → k = k' → N b l k = N b l' k' := by
      rintro l _ k _ rfl rfl; rfl
    refine congrArg (fun y : EReal => (atom (crd x0 b q) ⟨a.val, ha⟩ x - y) * (atom (crd x0 b q) ⟨a.val, ha⟩ x - y)) (e _ _ _ _ _ _ (eN _ _ _ _ ?_ ?_) ?_ ?_)
    all_goals
      have hk := k.isLt
      have hq := q.isLt
      have hx := x.isLt
      have ha8 := a'.isLt
      refine Fin.ext ?_
      dsimp only
      try omega
  have hs : val_main_v113 (F := Ideal) x0 x1 (ix5 b q k a a') = (∑ x : Fin 3, (val_main_v112 (F := Ideal) x0 x1 (ix6 b q k a a' x) : EReal) : EReal) := by
    rw [val_main_v113_apply]
    refine (congrArg (· + _) (show val_main_cst_9 (F := Ideal) _ = (0 : EReal) from zero_lit)).trans ?_
    rw [zero_add]
    refine Finset.sum_congr rfl fun x _ => congrArg (val_main_v112 (F := Ideal) x0 x1) ?_
    funext y
    match y with
    | ⟨0, _⟩ => rfl
    | ⟨1, _⟩ => rfl
    | ⟨2, _⟩ => rfl
    | ⟨3, _⟩ => rfl
    | ⟨4, _⟩ => rfl
    | ⟨5, _⟩ => rfl
  pointwise [val_main_v116, val_main_v115, val_main_v114, val_main_cst_10]
  rw [hs, Fin.sum_univ_three, hj, hj, hj]
  rfl

end Nbr

/-- The radial centers. -/
theorem v117 (r : Fin 16) :
    val_main_v117 (F := Ideal) (ix1 r) = (Ideal.ofBits FTy.f32 0x40000000#32 + ((r.val : ℝ) : EReal) * ((4 / 3 : ℝ) : EReal) : EReal) := by
  have e2 : Ideal.ofBits FTy.f32 0x40000000#32 = ((2 : ℝ) : EReal) := by simp [Ideal.ofBits, Ideal.ieee, -EReal.coe_mul]; norm_num
  have e15 : Ideal.ofBits FTy.f32 0x41700000#32 = ((15 : ℝ) : EReal) := by simp [Ideal.ofBits, Ideal.ieee, -EReal.coe_mul]; norm_num
  have e22 : Ideal.ofBits FTy.f32 0x41B00000#32 = ((22 : ℝ) : EReal) := by simp [Ideal.ofBits, Ideal.ieee, -EReal.coe_mul]; norm_num
  rw [e2]
  pointwise [val_main_v117]
  by_cases h : r.val < 15
  · rw [dif_pos h]
    pointwise [val_main_call1_v15, val_main_call1_v14, val_main_call1_v13, val_main_call1_v12, val_main_call1_v11, val_main_call1_v10, val_main_call1_v9, val_main_call1_v8, val_main_call1_v7, val_main_call1_v6, val_main_call1_v5, val_main_call1_v4, val_main_call1_v1, val_main_call1_v0, val_main_cst_11, val_main_cst_12, val_main_call1_cst, val_main_call1_cst_0, val_main_call1_cst_1]
    show (Ideal.ofBits FTy.f32 0x40000000#32 * (1 - Ideal.div (((BitVec.ofNat 32 r.val).toInt : ℝ) : EReal) (Ideal.ofBits FTy.f32 0x41700000#32)) +
      Ideal.ofBits FTy.f32 0x41B00000#32 * Ideal.div (((BitVec.ofNat 32 r.val).toInt : ℝ) : EReal) (Ideal.ofBits FTy.f32 0x41700000#32) : EReal) = _
    have hi : (BitVec.ofNat 32 r.val).toInt = r.val := by
      rw [BitVec.toInt_eq_toNat_of_lt (by rw [BitVec.toNat_ofNat]; omega), BitVec.toNat_ofNat, Nat.mod_eq_of_lt (by omega)]
    rw [e2, e15, e22, hi, Ideal.div_coe (by norm_num : (15 : ℝ) ≠ 0), ← EReal.coe_one, ← EReal.coe_mul, ← EReal.coe_sub, ← EReal.coe_mul, ← EReal.coe_mul,
      ← EReal.coe_mul, ← EReal.coe_add, ← EReal.coe_add]
    congr 1
    push_cast
    ring
  · rw [dif_neg h]
    have hr : r.val = 15 := by omega
    pointwise [val_main_call1_v16, val_main_call1_v1, val_main_cst_12]
    show Ideal.ofBits FTy.f32 0x41B00000#32 = _
    rw [e22, hr, ← EReal.coe_mul, ← EReal.coe_add]
    congr 1
    norm_num

/-- A masked radial feature. -/
theorem v138 (x0 : Vec Ideal S2x1024x6x3 .f32) (x1 : Vec Ideal S2x1024 .f32) (N : Fin 2 → Fin 1024 → Fin 30 → Fin 1024)
    (hN : ∀ b q k, val_main_indices (F := Ideal) x0 x1 (ix3 b q k) = BitVec.ofNat 32 (N b q k).val)
    (x4 : Vec Ideal S2x1024x6 .f32) (x5 x6 x7 : Vec Ideal S2x1024 .f32) (h4 : ∀ b l a, x4 (ix3 b l a) = (1 : EReal))
    (h5 : ∀ b l, x5 (ix2 b l) = (1 : EReal)) (h6 : ∀ b l, x6 (ix2 b l) = (0 : EReal)) (h7 : ∀ b l, x7 (ix2 b l) = (0 : EReal))
    (b : Fin 2) (q : Fin 1024) (k : Fin 30) (a a' : Fin 8) (r : Fin 16) :
    val_main_v138 (F := Ideal) x0 x1 x4 x5 x6 x7 (ix6 b q k a a' r) =
      (if h : a.val < 7 ∧ a'.val < 7 then rbf (gap (atom (crd x0 b q) ⟨a.val, h.1⟩) (atom (crd x0 b (N b q k)) ⟨a'.val, h.2⟩)) r else 0 : EReal) := by
  pointwise [val_main_v138, val_main_v137, val_main_v136, val_main_v135, val_main_v134, val_main_v133, val_main_v132, val_main_v127, val_main_v126, val_main_v125, val_main_v124, val_main_v123, val_main_v122, val_main_v121, val_main_v120, val_main_v119, val_main_v118, val_main_cst_13]
  rw [v131 x0 x1 N hN, v74 x4 x5 x6 x7 h4 h5 h6 h7, v74 x4 x5 x6 x7 h4 h5 h6 h7]
  by_cases ha : a.val < 7
  · by_cases ha' : a'.val < 7
    · rw [if_pos ha, if_pos ha', dif_pos ⟨ha, ha'⟩, mul_one, mul_one, v116 x0 x1 N hN b q k a a' ha ha', v117]
      have e : Ideal.ofBits FTy.f32 0x3FA00000#32 = ((5 / 4 : ℝ) : EReal) := by simp [Ideal.ofBits, Ideal.ieee, -EReal.coe_mul]; norm_num
      rw [e, Ideal.div_coe (by norm_num : (5 / 4 : ℝ) ≠ 0), show (1 / (5 / 4) : ℝ) = 4 / 5 by norm_num]
      unfold rbf
      rw [zero_sub]
    · rw [if_neg ha', dif_neg (fun h => ha' h.2), mul_zero]
  · rw [if_neg ha, dif_neg (fun h => ha h.1), mul_zero, zero_mul]

end Cert.RFeat
end
-- ==== Proof.REdge.lean ====
/-
  The reference's edge result at an index: its sum over 1040 columns is the sum over the kernel's 850 features.
-/
module

public import proofs.«01_k».proof.Proof.Gen.ReferenceIdeal.Read
public import proofs.«01_k».proof.Proof.Spec
public import proofs.«01_k».proof.Proof.RFeat
public import Idealize.ShloMosaic.Lib.Pointwise

@[expose] public section

set_option maxRecDepth 16384

noncomputable section

namespace Cert.REdge

open Idealize.ShloMosaic Cert.ReferenceIdeal Cert.ReferenceIdeal.Read Cert.Consts Cert.Spec Cert.RSel Cert.RFeat

/-- A sum over a product of ranges, by quotient and remainder. -/
theorem sum_range_prod (n m : Nat) (g : Nat → Nat → EReal) :
    ∑ f ∈ Finset.range (n * m), g (f / m) (f % m) = ∑ i ∈ Finset.range n, ∑ j ∈ Finset.range m, g i j := by
  induction n with
  | zero => simp
  | succ n ih =>
    rw [Nat.succ_mul, Finset.sum_range_add, ih, Finset.sum_range_succ]
    refine congrArg (_ + ·) (Finset.sum_congr rfl fun j hj => ?_)
    have hj := Finset.mem_range.mp hj
    rw [Nat.mul_comm n m, Nat.mul_add_div (by omega), Nat.div_eq_of_lt hj, Nat.mul_add_mod, Nat.mod_eq_of_lt hj, Nat.add_zero]

/-- A sum over three digits. -/
theorem sum_digits (n m k : Nat) (g : Nat → Nat → Nat → EReal) :
    ∑ f ∈ Finset.range (n * m * k), g (f / k / m) (f / k % m) (f % k) =
      ∑ a ∈ Finset.range n, ∑ b ∈ Finset.range m, ∑ c ∈ Finset.range k, g a b c := by
  rw [sum_range_prod (n * m) k (fun i c => g (i / m) (i % m) c), sum_range_prod n m (fun a b => ∑ c ∈ Finset.range k, g a b c)]

/-- Terms that vanish where either of the first two digits is seven sum over eight digits as over seven. -/
theorem sum_seven (g : Nat → Nat → Nat → EReal) (h : ∀ a b c, ¬(a < 7 ∧ b < 7) → g a b c = 0) :
    ∑ f : Fin 1024, g (f.val / 128) (f.val / 16 % 8) (f.val % 16) =
      ∑ f : Fin 784, g (f.val / 16 / 7) (f.val / 16 % 7) (f.val % 16) := by
  rw [Fin.sum_univ_eq_sum_range (fun f => g (f / 128) (f / 16 % 8) (f % 16)) 1024,
    Fin.sum_univ_eq_sum_range (fun f => g (f / 16 / 7) (f / 16 % 7) (f % 16)) 784]
  have e1 := sum_digits 8 8 16 g
  have e2 := sum_digits 7 7 16 g
  simp only [Nat.div_div_eq_div_mul] at e1 e2 ⊢
  refine Eq.trans e1 (Eq.trans ?_ e2.symm)
  rw [Finset.sum_range_succ, Finset.sum_eq_zero (s := Finset.range 8) (f := fun b => ∑ c ∈ Finset.range 16, g 7 b c)
    (fun b _ => Finset.sum_eq_zero fun c _ => h 7 b c (by omega)), add_zero]
  refine Finset.sum_congr rfl fun a _ => ?_
  rw [Finset.sum_range_succ, Finset.sum_eq_zero (s := Finset.range 16) (f := fun c => g a 7 c)
    (fun c _ => h a 7 c (by omega)), add_zero]

/-- The sum over the 1040 columns is the sum over the 850 features. -/
theorem sum_cols (X : Fin 1024 → Fin 6 → Fin 3 → EReal) (We : Fin 128 → Fin 1040 → EReal) (pw : Fin 16 → Fin 66 → EReal)
    (pb : Fin 16 → EReal) (l j : Fin 1024) (e : Fin 128) (E : Fin 1040 → EReal)
    (hp : ∀ c : Fin 16, E ⟨c.val, by omega⟩ = pw c ⟨bucket l.val j.val, by unfold bucket; omega⟩ + pb c)
    (hr : ∀ f : Fin 1024, E ⟨16 + f.val, by omega⟩ = if h : f.val / 128 < 7 ∧ f.val / 16 % 8 < 7 then
      rbf (gap (atom (X l) ⟨f.val / 128, h.1⟩) (atom (X j) ⟨f.val / 16 % 8, h.2⟩)) ⟨f.val % 16, by omega⟩ else 0) :
    ∑ c : Fin 1040, E c * We e c = ∑ f : Fin 850, feat X l j f * weight We pw pb f e := by
  have s1 : ∑ c : Fin 1040, E c * We e c = ∑ c : Fin 16, E ⟨c.val, by omega⟩ * We e ⟨c.val, by omega⟩ +
      ∑ f : Fin 1024, E ⟨16 + f.val, by omega⟩ * We e ⟨16 + f.val, by omega⟩ :=
    Fin.sum_univ_add (a := 16) (b := 1024) (fun c : Fin 1040 => E c * We e c)
  have s2 : ∑ f : Fin 850, feat X l j f * weight We pw pb f e =
      ∑ f : Fin 784, feat X l j ⟨f.val, by omega⟩ * weight We pw pb ⟨f.val, by omega⟩ e +
      ∑ f : Fin 66, feat X l j ⟨784 + f.val, by omega⟩ * weight We pw pb ⟨784 + f.val, by omega⟩ e :=
    Fin.sum_univ_add (a := 784) (b := 66) (fun f : Fin 850 => feat X l j f * weight We pw pb f e)
  rw [s1, s2, add_comm]
  let g : Nat → Nat → Nat → EReal := fun a b c => if h : a < 7 ∧ b < 7 then
      if hc : c < 16 then rbf (gap (atom (X l) ⟨a, h.1⟩) (atom (X j) ⟨b, h.2⟩)) ⟨c, hc⟩ * We e ⟨16 + (128 * a + 16 * b + c), by omega⟩ else 0
    else 0
  have hg : ∀ a b c, ¬(a < 7 ∧ b < 7) → g a b c = 0 := fun a b c h => dif_neg h
  refine congrArg₂ (· + ·) ?_ ?_
  · refine Eq.trans (Finset.sum_congr rfl fun f _ => ?_) ((sum_seven g hg).trans (Finset.sum_congr rfl fun f _ => ?_))
    · rw [hr]
      show _ = g _ _ _
      by_cases h : f.val / 128 < 7 ∧ f.val / 16 % 8 < 7
      · have hf : (⟨16 + f.val, by omega⟩ : Fin 1040) = ⟨16 + (128 * (f.val / 128) + 16 * (f.val / 16 % 8) + f.val % 16), by omega⟩ := Fin.ext (by dsimp only; omega)
        rw [dif_pos h, hf]
        show _ = dite _ _ _
        rw [dif_pos h, dif_pos (show f.val % 16 < 16 by omega)]
      · rw [dif_neg h, hg _ _ _ h, zero_mul]
    · have h : f.val / 16 / 7 < 7 ∧ f.val / 16 % 7 < 7 := by omega
      show dite _ _ _ = _
      rw [dif_pos h, dif_pos (show f.val % 16 < 16 by omega)]
      unfold feat weight
      rw [if_pos (show f.val < 784 from f.isLt), if_pos (show f.val < 784 from f.isLt)]
      have hm : f.val / 16 / 7 % 7 = f.val / 16 / 7 := Nat.mod_eq_of_lt h.1
      simp only [hm]
  · rw [Finset.sum_eq_single (⟨bucket l.val j.val, by unfold bucket; omega⟩ : Fin 66)]
    · have hb : bucket l.val j.val < 66 := by unfold bucket; omega
      unfold feat weight
      rw [if_neg (show ¬(784 + bucket l.val j.val < 784) by omega), if_neg (show ¬(784 + bucket l.val j.val < 784) by omega),
        if_pos (show 784 + bucket l.val j.val - 784 = bucket l.val j.val by omega), one_mul]
      refine Finset.sum_congr rfl fun c _ => ?_
      rw [hp]
      have hq : (⟨bucket l.val j.val, hb⟩ : Fin 66) = ⟨(784 + bucket l.val j.val - 784) % 66, by omega⟩ := Fin.ext (by dsimp only; omega)
      exact congrArg (fun u => (pw c u + pb c) * We e ⟨c.val, by omega⟩) hq
    · intro f _ hf
      unfold feat
      rw [if_neg (show ¬(784 + f.val < 784) by omega), if_neg, zero_mul]
      intro h
      apply hf
      refine Fin.ext ?_
      dsimp only at h ⊢
      omega
    · intro h; exact absurd (Finset.mem_univ _) h

/-- The reference's edge result, before its two middle axes are merged. -/
theorem v202 (x0 : Vec Ideal S2x1024x6x3 .f32) (x1 : Vec Ideal S2x1024 .f32) (x2 x3 : Vec Ideal S2x1024 .i32) (x4 : Vec Ideal S2x1024x6 .f32)
    (x5 x6 x7 : Vec Ideal S2x1024 .f32) (x10 : Vec Ideal S128x1040 .f32) (x13 x14 : Vec Ideal S128 .f32) (x15 : Vec Ideal S16x66 .f32)
    (x16 : Vec Ideal S16 .f32) (N : Fin 2 → Fin 1024 → Fin 30 → Fin 1024)
    (hN : ∀ b q k, val_main_indices (F := Ideal) x0 x1 (ix3 b q k) = BitVec.ofNat 32 (N b q k).val)
    (h2 : ∀ (b : Fin 2) (l : Fin 1024), x2 (ix2 b l) = BitVec.ofNat 32 (b.val * 1024 + l.val)) (h3 : ∀ b l, x3 (ix2 b l) = 0#32)
    (h4 : ∀ b l a, x4 (ix3 b l a) = (1 : EReal)) (h5 : ∀ b l, x5 (ix2 b l) = (1 : EReal)) (h6 : ∀ b l, x6 (ix2 b l) = (0 : EReal))
    (h7 : ∀ b l, x7 (ix2 b l) = (0 : EReal)) (b : Fin 2) (q : Fin 1024) (k : Fin 30) (c : Fin 128) :
    val_main_v202 (F := Ideal) x0 x1 x2 x3 x4 x5 x6 x7 x10 x13 x14 x15 x16 (ix4 b q k c) =
      edge (crd x0 b) (fun e f => x10 (ix2 e f)) (fun d f => x15 (ix2 d f)) (fun d => x16 (ix1 d)) (fun e => x13 (ix1 e)) (fun e => x14 (ix1 e)) q (N b q k) c := by
  have hs : ∀ e : Fin 128, val_main_v178 (F := Ideal) x0 x1 x2 x3 x4 x5 x6 x7 x10 x15 x16 (ix4 b q k e) =
      (∑ f : Fin 850, feat (crd x0 b) q (N b q k) f * weight (fun e f => x10 (ix2 e f)) (fun d f => x15 (ix2 d f)) (fun d => x16 (ix1 d)) f e : EReal) := by
    intro e
    rw [← sum_cols (crd x0 b) (fun e f => x10 (ix2 e f)) (fun d f => x15 (ix2 d f)) (fun d => x16 (ix1 d)) q (N b q k) e
      (fun f => val_main_v176 (F := Ideal) x0 x1 x2 x3 x4 x5 x6 x7 x15 x16 (ix4 b q k f)) ?_ ?_]
    · pointwise [val_main_v178, val_main_v177]
    · intro f
      have hf := f.isLt
      pointwise [val_main_v176]
      exact v175 x0 x1 N hN x2 x3 x15 x16 h2 h3 b q k f
    · intro f
      pointwise [val_main_v176]
      pointwise [val_main_v139]
      exact v138 x0 x1 N hN x4 x5 x6 x7 h4 h5 h6 h7 b q k _ _ _
  have e : ∀ y : Fin 128 → EReal, y = (fun e => (val_main_v178 (F := Ideal) x0 x1 x2 x3 x4 x5 x6 x7 x10 x15 x16 (ix4 b q k e) : EReal)) →
      (lnorm y (fun e => x13 (ix1 e)) (fun e => x14 (ix1 e)) c : EReal) = val_main_v202 (F := Ideal) x0 x1 x2 x3 x4 x5 x6 x7 x10 x13 x14 x15 x16 (ix4 b q k c) := by
    rintro _ rfl
    pointwise [val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_cst_19, val_main_cst_20, val_main_cst_21, val_main_cst_22, val_main_cst_23]
    rfl
  exact (e _ (funext fun e => (hs e).symm)).symm

/-- The second result: the edge results with the query and the neighbor axis merged. -/
theorem v230 (x0 : Vec Ideal S2x1024x6x3 .f32) (x1 : Vec Ideal S2x1024 .f32) (x2 x3 : Vec Ideal S2x1024 .i32) (x4 : Vec Ideal S2x1024x6 .f32)
    (x5 x6 x7 : Vec Ideal S2x1024 .f32) (x10 : Vec Ideal S128x1040 .f32) (x13 x14 : Vec Ideal S128 .f32) (x15 : Vec Ideal S16x66 .f32)
    (x16 : Vec Ideal S16 .f32) (b : Fin 2) (n : Fin 30720) (c : Fin 128) :
    val_main_v230 (F := Ideal) x0 x1 x2 x3 x4 x5 x6 x7 x10 x13 x14 x15 x16 (ix3 b n c) =
      val_main_v202 (F := Ideal) x0 x1 x2 x3 x4 x5 x6 x7 x10 x13 x14 x15 x16 (ix4 b ⟨n.val / 30, by omega⟩ ⟨n.val % 30, by omega⟩ c) := by
  pointwise [val_main_v230]

end Cert.REdge
end
-- ==== Proof.KBlock.lean ====
/-
  What the kernel's body leaves in each output block, as terms of the input blocks: the normalized node rows, the edge rows
  — a product of the stacked radial features and position columns with the weights, normalized —, and the neighbor list.
-/
module
public import proofs.«01_k».proof.Proof.Gen.KernelIdeal.Value
public import Idealize.ShloMosaic.Lib.Pointwise
@[expose] public section
set_option maxRecDepth 16384
noncomputable section
namespace Cert.KBlock
open Idealize.ShloMosaic Idealize.ShloMosaic.TcCoe Cert.KernelIdeal Cert.KernelIdeal.Gen Idealize.ShloMosaic.Tactic

theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

/-- Rows `3 a, 3 a + 1, 3 a + 2` of the coordinates: atom `a`. -/
theorem slices3 (a : Fin 7) : S21x1920.Slices ![3 * a.val, 0] S3x1920 := by revert a; decide

/-- The sixteen radial features of the distance from the query's atom `ai` to the neighbor's atom `aj`, at every edge lane. -/
def chunk (xq xg : FVec Ideal S21x1920 .f32) (ai aj : Fin 7) : FVec Ideal S16x1920 .f32 :=
  have v137 : FVec Ideal S3x1920 .f32 := extractStridedSlice S3x1920 ![3 * ai.val, 0] xq (slices3 ai)
  have v163 : FVec Ideal S3x1920 .f32 := extractStridedSlice S3x1920 ![3 * aj.val, 0] xg (slices3 aj)
  have v164 : FVec Ideal S3x1920 .f32 := subf v137 v163
  have v165 : FVec Ideal S1x1920 .f32 := extractStridedSlice S1x1920 ![0, 0] v164 slices_S3x1920_o0_0_S1x1920
  have v166 : FVec Ideal S1x1920 .f32 := extractStridedSlice S1x1920 ![0, 0] v164 slices_S3x1920_o0_0_S1x1920
  have v167 : FVec Ideal S1x1920 .f32 := mulf v165 v166
  have v168 : FVec Ideal S1x1920 .f32 := extractStridedSlice S1x1920 ![1, 0] v164 slices_S3x1920_o1_0_S1x1920
  have v169 : FVec Ideal S1x1920 .f32 := extractStridedSlice S1x1920 ![1, 0] v164 slices_S3x1920_o1_0_S1x1920
  have v170 : FVec Ideal S1x1920 .f32 := mulf v168 v169
  have v171 : FVec Ideal S1x1920 .f32 := addf v167 v170
  have v172 : FVec Ideal S1x1920 .f32 := extractStridedSlice S1x1920 ![2, 0] v164 slices_S3x1920_o2_0_S1x1920
  have v173 : FVec Ideal S1x1920 .f32 := extractStridedSlice S1x1920 ![2, 0] v164 slices_S3x1920_o2_0_S1x1920
  have v174 : FVec Ideal S1x1920 .f32 := mulf v172 v173
  have v175 : FVec Ideal S1x1920 .f32 := addf v171 v174
  have cst_29 : Ideal .f32 := Scalar.ofBits (F := Ideal) .f32 0x358637BD#32
  have v176 : FVec Ideal S1x1920 .f32 := broadcast S1x1920 cst_29
  have v177 : FVec Ideal S1x1920 .f32 := addf v175 v176
  have v178 : FVec Ideal S1x1920 .f32 := sqrt v177
  have v179 : FVec Ideal S16x1920 .f32 := broadcastTo S16x1920 v178 broadcasts_S1x1920_S16x1920
  have v180 : FVec Ideal S16x1920 .f32 := broadcastTo S16x1920 k0_pay19 broadcasts_S16x1_S16x1920
  have v181 : FVec Ideal S16x1920 .f32 := subf v179 v180
  have cst_30 : Ideal .f32 := Named.named κ "inv_sigma" 0x3F4CCCCD#32
  have v182 : FVec Ideal S16x1920 .f32 := broadcast S16x1920 cst_30
  have v183 : FVec Ideal S16x1920 .f32 := mulf v181 v182
  have v184 : FVec Ideal S16x1920 .f32 := mulf v183 v183
  have cst_31 : Ideal .f32 := Scalar.ofBits (F := Ideal) .f32 0x00000000#32
  have v185 : FVec Ideal S16x1920 .f32 := broadcast S16x1920 cst_31
  have v186 : FVec Ideal S16x1920 .f32 := subf v185 v184
  have v187 : FVec Ideal S16x1920 .f32 := exp v186
  v187

theorem map_fst (ch : Fin 49 → FVec Ideal S16x1920 .f32) (oh : FVec Ideal S66x1920 .f32) :
    ((List.ofFn fun n : Fin 49 => (⟨S16x1920, ch n⟩ : (s : Shape) × (s.Idx → EReal))) ++
      [(⟨S66x1920, oh⟩ : (s : Shape) × (s.Idx → EReal))]).map (fun p => p.1) =
      List.replicate 49 S16x1920 ++ [S66x1920] := by
  simp [List.map_ofFn, Function.comp_def, List.ofFn_const]

theorem stacked : Shape.Concatenates (List.replicate 49 S16x1920 ++ [S66x1920]) S850x1920 0 := by decide +kernel

/-- The forty-nine blocks of radial features over the one-hot position columns. -/
def edgeMat (ch : Fin 49 → FVec Ideal S16x1920 .f32) (oh : FVec Ideal S66x1920 .f32) : FVec Ideal S850x1920 .f32 :=
  concatenate S850x1920 0
    ((List.ofFn fun n : Fin 49 => (⟨S16x1920, ch n⟩ : (s : Shape) × (s.Idx → EReal))) ++ [⟨S66x1920, oh⟩])
    ((map_fst ch oh).symm ▸ stacked)

/-- The one-hot position columns: the clipped difference of the query's and the neighbor's row numbers. -/
def posHot (nrow qrow : IVec S1x1920 32) : FVec Ideal S66x1920 .f32 :=
  sitofp .f32 (extui 32 (cmpi .eq (broadcastTo S66x1920 (iota .tc S66x1 32 [0] iota_S66x1_d0_w32) broadcasts_S66x1_S66x1920)
    (broadcastTo S66x1920 (minsi k0_pay120 (k0_pay119 nrow qrow)) broadcasts_S1x1920_S66x1920)) natLt_1_32)

/-- The product with the weights, each edge's row normalized. -/
def edgeOut (m : FVec Ideal S850x1920 .f32) (w : FVec Ideal S850x128 .f32) (g b : FVec Ideal S1x128 .f32) :
    FVec Ideal S1x1920x128 .f32 :=
  have v1384 : FVec Ideal S850x128 .f32 := shapeCast S850x128 w shapeCasts_S850x128_S850x128
  have cst_177 : FVec Ideal S1920x128 .f32 := constant S1920x128 .f32 0x00000000#32
  have v1385 : FVec Ideal S1920x128 .f32 := matmul dot_S850x1920_S850x128_S1920x128_0_0_1_1_n_n (some .fp32) m v1384 cst_177
  have v1386 : FVec Ideal S1920 .f32 := multiReduction .add [1] S1920 v1385 0x00000000#32 reduces_S1920x128_S1920 (.inl rfl) rfl
  have v1387 : FVec Ideal S1920x1 .f32 := shapeCast S1920x1 v1386 shapeCasts_S1920_S1920x1
  have cst_179 : Ideal .f32 := Scalar.ofBits (F := Ideal) .f32 0x43000000#32
  have v1388 : FVec Ideal S1920x1 .f32 := broadcast S1920x1 cst_179
  have v1389 : FVec Ideal S1920x1 .f32 := divf v1387 v1388
  have v1390 : FVec Ideal S1920x128 .f32 := broadcastTo S1920x128 v1389 broadcasts_S1920x1_S1920x128
  have v1391 : FVec Ideal S1920x128 .f32 := subf v1385 v1390
  have v1392 : FVec Ideal S1920x128 .f32 := mulf v1391 v1391
  have v1393 : FVec Ideal S1920 .f32 := multiReduction .add [1] S1920 v1392 0x00000000#32 reduces_S1920x128_S1920 (.inl rfl) rfl
  have v1394 : FVec Ideal S1920x1 .f32 := shapeCast S1920x1 v1393 shapeCasts_S1920_S1920x1
  have cst_181 : Ideal .f32 := Scalar.ofBits (F := Ideal) .f32 0x43000000#32
  have v1395 : FVec Ideal S1920x1 .f32 := broadcast S1920x1 cst_181
  have v1396 : FVec Ideal S1920x1 .f32 := divf v1394 v1395
  have v1397 : FVec Ideal S1920x128 .f32 := broadcastTo S1920x128 v1389 broadcasts_S1920x1_S1920x128
  have v1398 : FVec Ideal S1920x128 .f32 := subf v1385 v1397
  have cst_182 : Ideal .f32 := Scalar.ofBits (F := Ideal) .f32 0x3727C5AC#32
  have v1399 : FVec Ideal S1920x1 .f32 := broadcast S1920x1 cst_182
  have v1400 : FVec Ideal S1920x1 .f32 := addf v1396 v1399
  have v1401 : FVec Ideal S1920x1 .f32 := sqrt v1400
  have v1402 : FVec Ideal S1920x128 .f32 := broadcastTo S1920x128 v1401 broadcasts_S1920x1_S1920x128
  have v1403 : FVec Ideal S1920x128 .f32 := divf v1398 v1402
  have v1405 : FVec Ideal S1x128 .f32 := shapeCast S1x128 g shapeCasts_S1x128_S1x128
  have v1406 : FVec Ideal S1920x128 .f32 := broadcastTo S1920x128 v1405 broadcasts_S1x128_S1920x128
  have v1407 : FVec Ideal S1920x128 .f32 := mulf v1403 v1406
  have v1409 : FVec Ideal S1x128 .f32 := shapeCast S1x128 b shapeCasts_S1x128_S1x128
  have v1410 : FVec Ideal S1920x128 .f32 := broadcastTo S1920x128 v1409 broadcasts_S1x128_S1920x128
  have v1411 : FVec Ideal S1920x128 .f32 := addf v1407 v1410
  have v1414 : FVec Ideal S1x1920x128 .f32 := shapeCast S1x1920x128 v1411 shapeCasts_S1920x128_S1x1920x128
  v1414

/-- The neighbor list the rounds leave. -/
def nbrs (x0 : Vec Ideal S1x18x1024 .f32) (x1 : Vec Ideal S1x64x18 .f32) : IVec S64x30 32 :=
  (Scf.fold (fun (t : Fin k0_t1_loop.trips) (a : FVec Ideal S64x1024 .f32 × IVec S64x30 32) =>
    (k0_pay10 a.1, k0_pay9 t a.1 a.2)) (k0_pay6 (k0_pay4 x0) (k0_pay5 x1), k0_pay7)).2

/-- Every lane's number. -/
def lane : IVec S1x1920 32 := iota Kind.tc S1x1920 32 [1] iota_S1x1920_d1_w32

def zeros : FVec Ideal S64x1920 .f32 := constant S64x1920 FTy.f32 0#32

/-- The coordinates of every lane's query and of its neighbor. -/
def qCoords (n : Nat) (x0 : Vec Ideal S1x18x1024 .f32) : FVec Ideal S21x1920 .f32 :=
  k0_pay18 (BitVec.ofNat 32 n) (k0_pay3 x0) (k0_pay12 (F := Ideal))
def nCoords (x0 : Vec Ideal S1x18x1024 .f32) (x1 : Vec Ideal S1x64x18 .f32) : FVec Ideal S21x1920 .f32 :=
  k0_pay17 (k0_pay3 x0) lane k0_pay13 (k0_pay14 (nbrs x0 x1)) zeros
def nRow (x0 : Vec Ideal S1x18x1024 .f32) (x1 : Vec Ideal S1x64x18 .f32) : IVec S1x1920 32 :=
  k0_pay15 lane k0_pay13 (k0_pay14 (nbrs x0 x1)) zeros

/-- The edge block. -/
def edgeBlock (n : Nat) (x0 : Vec Ideal S1x18x1024 .f32) (x1 : Vec Ideal S1x64x18 .f32) (x3 : Vec Ideal S850x128 .f32)
    (x7 x8 : Vec Ideal S1x128 .f32) : FVec Ideal S1x1920x128 .f32 :=
  edgeOut (edgeMat (fun k => chunk (qCoords n x0) (nCoords x0 x1) ⟨k.val / 7, by omega⟩ ⟨k.val % 7, by omega⟩)
    (posHot (nRow x0 x1) (k0_pay16 (BitVec.ofNat 32 n) (k0_pay12 (F := Ideal))))) x3 x7 x8

theorem out9 (c : Dev nD) (i : grid0.Coords) (arg2 : Memref sig .tc .vmem S1x18x1024 .f32) (harg2 : arg2.IsWhole) (arg3 : Memref sig .tc .vmem S1x64x18 .f32) (harg3 : arg3.IsWhole) (arg4 : Memref sig .tc .vmem S1x1x64x1 .i32) (harg4 : arg4.IsWhole) (arg5 : Memref sig .tc .vmem S850x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x64x128 .f32) (harg11 : arg11.IsWhole) (arg12 : Memref sig .tc .vmem S1x1920x128 .f32) (harg12 : arg12.IsWhole) (arg13 : Memref sig .tc .vmem S1x1x64x30 .i32) (harg13 : arg13.IsWhole) (x0 : Vec Ideal S1x18x1024 .f32) (x1 : Vec Ideal S1x64x18 .f32) (x2 : Vec Ideal S1x1x64x1 .i32) (x3 : Vec Ideal S850x128 .f32) (x4 : Vec Ideal S3x128 .f32) (x5 : Vec Ideal S1x128 .f32) (x6 : Vec Ideal S1x128 .f32) (x7 : Vec Ideal S1x128 .f32) (x8 : Vec Ideal S1x128 .f32) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 = k0_pay1 (k0_pay122 x2 x4 x5) (k0_pay123 x6) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x18x1024) hz3, View.ld_unit_zero (S := S1x64x18) hz3, View.ld_unit_zero (S := S1x1x64x1) hz4, View.ld_unit_zero (S := S850x128) hz2, View.ld_unit_zero (S := S3x128) hz2, View.ld_unit_zero (S := S1x128) hz2]

theorem out11 (c : Dev nD) (i : grid0.Coords) (arg2 : Memref sig .tc .vmem S1x18x1024 .f32) (harg2 : arg2.IsWhole) (arg3 : Memref sig .tc .vmem S1x64x18 .f32) (harg3 : arg3.IsWhole) (arg4 : Memref sig .tc .vmem S1x1x64x1 .i32) (harg4 : arg4.IsWhole) (arg5 : Memref sig .tc .vmem S850x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x64x128 .f32) (harg11 : arg11.IsWhole) (arg12 : Memref sig .tc .vmem S1x1920x128 .f32) (harg12 : arg12.IsWhole) (arg13 : Memref sig .tc .vmem S1x1x64x30 .i32) (harg13 : arg13.IsWhole) (x0 : Vec Ideal S1x18x1024 .f32) (x1 : Vec Ideal S1x64x18 .f32) (x2 : Vec Ideal S1x1x64x1 .i32) (x3 : Vec Ideal S850x128 .f32) (x4 : Vec Ideal S3x128 .f32) (x5 : Vec Ideal S1x128 .f32) (x6 : Vec Ideal S1x128 .f32) (x7 : Vec Ideal S1x128 .f32) (x8 : Vec Ideal S1x128 .f32) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 = k0_pay11 (nbrs x0 x1) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, View.ld_unit_zero (S := S1x18x1024) hz3, View.ld_unit_zero (S := S1x64x18) hz3, View.ld_unit_zero (S := S1x1x64x1) hz4, View.ld_unit_zero (S := S850x128) hz2, View.ld_unit_zero (S := S3x128) hz2, View.ld_unit_zero (S := S1x128) hz2]
  rfl

theorem out10 (c : Dev nD) (i : grid0.Coords) (arg2 : Memref sig .tc .vmem S1x18x1024 .f32) (harg2 : arg2.IsWhole) (arg3 : Memref sig .tc .vmem S1x64x18 .f32) (harg3 : arg3.IsWhole) (arg4 : Memref sig .tc .vmem S1x1x64x1 .i32) (harg4 : arg4.IsWhole) (arg5 : Memref sig .tc .vmem S850x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x64x128 .f32) (harg11 : arg11.IsWhole) (arg12 : Memref sig .tc .vmem S1x1920x128 .f32) (harg12 : arg12.IsWhole) (arg13 : Memref sig .tc .vmem S1x1x64x30 .i32) (harg13 : arg13.IsWhole) (x0 : Vec Ideal S1x18x1024 .f32) (x1 : Vec Ideal S1x64x18 .f32) (x2 : Vec Ideal S1x1x64x1 .i32) (x3 : Vec Ideal S850x128 .f32) (x4 : Vec Ideal S3x128 .f32) (x5 : Vec Ideal S1x128 .f32) (x6 : Vec Ideal S1x128 .f32) (x7 : Vec Ideal S1x128 .f32) (x8 : Vec Ideal S1x128 .f32) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 = edgeBlock (i 1).val x0 x1 x3 x7 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x18x1024) hz3, View.ld_unit_zero (S := S1x64x18) hz3, View.ld_unit_zero (S := S1x1x64x1) hz4, View.ld_unit_zero (S := S850x128) hz2, View.ld_unit_zero (S := S3x128) hz2, View.ld_unit_zero (S := S1x128) hz2]
  sl_kernel_rfl

end Cert.KBlock

end
-- ==== Proof.KSel.lean ====
/-
  The kernel's selection loop: the `k`-th round takes the first column of a row's least distance, writes it down and puts
  `⊤` in its place. After thirty rounds the list holds the first thirty columns in the order of distance, then position.
-/
module

public import proofs.«01_k».proof.Proof.Gen.KernelIdeal.Skeleton
public import proofs.«01_k».proof.Proof.Consts
public import proofs.«01_k».proof.Proof.Spec
public import Idealize.ShloMosaic.Lib.SortNet.Extract
public import Idealize.ShloMosaic.Lib.Exec.Context

@[expose] public section

set_option maxRecDepth 16384

noncomputable section

namespace Cert.KSel

open Idealize.ShloMosaic Cert.KernelIdeal Cert.KernelIdeal.Gen Cert.TopSel Cert.Consts Cert.Spec

/-- Every nonempty row has a first position of its least value. -/
theorem exists_first (r : Fin 1024 → EReal) : ∃ i, (∀ j, r i ≤ r j) ∧ ∀ j, r j = r i → i ≤ j := by
  obtain ⟨m, -, hm⟩ := Finset.exists_min_image Finset.univ r ⟨0, Finset.mem_univ _⟩
  have hne : (Finset.univ.filter fun j => r j = r m).Nonempty := ⟨m, by simp⟩
  have hmem := Finset.min'_mem _ hne
  rw [Finset.mem_filter] at hmem
  refine ⟨Finset.min' _ hne, fun j => ?_, fun j hj => ?_⟩
  · rw [hmem.2]; exact hm j (Finset.mem_univ _)
  · exact Finset.min'_le _ _ (by rw [Finset.mem_filter]; exact ⟨Finset.mem_univ _, hj.trans hmem.2⟩)

theorem fold_min_eq (r : Fin 1024 → EReal) (i : Fin 1024) (hi : ∀ j, r i ≤ r j) :
    Finset.fold min (Ideal.ofBits FTy.f32 0x7F800000#32) r Finset.univ = r i := by
  rw [top_lit]
  apply le_antisymm
  · exact Finset.fold_min_le _ |>.mpr (Or.inr ⟨i, Finset.mem_univ _, le_rfl⟩)
  · exact Finset.le_fold_min _ |>.mpr ⟨le_top, fun j _ => hi j⟩

theorem toInt_ofNat_small {n : Nat} (h : n < 2147483648) : (BitVec.ofNat 32 n).toInt = (n : Int) := by
  rw [BitVec.toInt_ofNat']
  simp only [Int.bmod]
  omega

/-- The least column word over a row is the first of its least value. -/
theorem fold_minsi_eq (r : Fin 1024 → EReal) (i : Fin 1024) (hfirst : ∀ j, r j = r i → i ≤ j) :
    Finset.fold IntOp.minsi (2147483647#32) (fun j : Fin 1024 => if r j = r i then BitVec.ofNat 32 j.val else 1024#32)
      Finset.univ = BitVec.ofNat 32 i.val := by
  apply BitVec.eq_of_toInt_eq
  rw [← Finset.fold_hom (op' := min) (m := BitVec.toInt) (SortNet.toInt_minsi)]
  have hv : (BitVec.ofNat 32 i.val).toInt = (i.val : Int) := toInt_ofNat_small (by omega)
  rw [hv]
  apply le_antisymm
  · refine Finset.fold_min_le _ |>.mpr (Or.inr ⟨i, Finset.mem_univ _, ?_⟩)
    rw [if_pos rfl, hv]
  · refine Finset.le_fold_min _ |>.mpr ⟨?_, fun j _ => ?_⟩
    · have : (2147483647#32 : BitVec 32).toInt = 2147483647 := by decide
      exact (show (i.val : Int) ≤ 2147483647 by omega).trans this.ge
    · split
      · rename_i h
        have hj : (BitVec.ofNat 32 j.val).toInt = (j.val : Int) := toInt_ofNat_small (by omega)
        have := hfirst j h
        rw [hj]
        omega
      · have : (1024#32 : BitVec 32).toInt = 1024 := by decide
        exact (show (i.val : Int) ≤ 1024 by omega).trans this.ge

/-- One round's column at row `q`. -/
theorem pay8_apply (x : FVec Ideal S64x1024 .f32) (q : Fin 64) (i : Fin 1024) (hi : ∀ j, x (ix2 q i) ≤ x (ix2 q j))
    (hfirst : ∀ j, x (ix2 q j) = x (ix2 q i) → i ≤ j) : k0_pay8 (F := Ideal) x (ix2 q 0) = BitVec.ofNat 32 i.val := by
  pointwise [k0_pay8]
  rw [fold_min_eq (fun j => x (ix2 q j)) i hi]
  exact fold_minsi_eq (fun j => x (ix2 q j)) i hfirst

/-- A property kept by every step of a fold over the positions holds at its end. -/
theorem foldl_finRange_inv {α : Type} {n : Nat} (g : Fin n → α → α) (P : Nat → α → Prop) (a : α) (h0 : P 0 a)
    (hs : ∀ (k : Fin n) (a : α), P k.val a → P (k.val + 1) (g k a)) :
    P n ((List.finRange n).foldl (fun a k => g k a) a) := by
  induction n generalizing P a with
  | zero => exact h0
  | succ n ih =>
    rw [List.finRange_succ, List.foldl_cons, List.foldl_map]
    exact ih (fun k a => g k.succ a) (fun k a => P (k + 1) a) _ (hs 0 a h0) fun k a h => hs k.succ a h

/-- What the rounds leave: the distances with `⊤` at the columns taken, and the columns taken. -/
def Inv (D : Fin 64 → Fin 1024 → EReal) (k : Nat) (a : FVec Ideal S64x1024 .f32 × IVec S64x30 32) : Prop :=
  (∀ q j, a.1 (ix2 q j) = if ∃ k' : Fin 1024, k'.val < k ∧ sortedFrom (lexB (D q)) k' = j then ⊤ else D q j) ∧
    ∀ q (k' : Fin 30), k'.val < k → a.2 (ix2 q k') = BitVec.ofNat 32 (sel (D q) k').val

theorem trips_eq : k0_t1_loop.trips = 30 := by decide

theorem ofNat_inj {a b : Nat} (ha : a < 2147483648) (hb : b < 2147483648) (h : BitVec.ofNat 32 a = BitVec.ofNat 32 b) :
    a = b := by
  have := congrArg BitVec.toNat h
  simpa [BitVec.toNat_ofNat, Nat.mod_eq_of_lt (show a < 4294967296 by omega),
    Nat.mod_eq_of_lt (show b < 4294967296 by omega)] using this

/-- An equality of small words decides an equality of numbers. -/
theorem select_eq {α : Type} {a b : Nat} (ha : a < 2147483648) (hb : b < 2147483648) (x y : α) :
    Scalar.select (IntOp.cmpi .eq (BitVec.ofNat 32 a) (BitVec.ofNat 32 b)) x y = if a = b then x else y := by
  by_cases h : a = b
  · subst h; simp [Scalar.select, IntOp.cmpi]
  · have : BitVec.ofNat 32 a ≠ BitVec.ofNat 32 b := fun e => h (ofNat_inj ha hb e)
    have hb : (BitVec.ofNat 32 a == BitVec.ofNat 32 b) = false := by simpa using this
    rw [if_neg h, Scalar.select, IntOp.cmpi, hb]
    rfl

theorem iv_eq (k : Nat) : Scf.iv 0#32 1#32 k = BitVec.ofNat 32 k := by simp [Scf.iv]

/-- One round keeps the invariant. -/
theorem step (D : Fin 64 → Fin 1024 → EReal) (hD : ∀ q j, D q j < ⊤) (k : Fin k0_t1_loop.trips)
    (a : FVec Ideal S64x1024 .f32 × IVec S64x30 32) (h : Inv D k.val a) :
    Inv D (k.val + 1) (k0_pay10 a.1, k0_pay9 k a.1 a.2) := by
  have hk : k.val < 30 := lt_of_lt_of_eq k.isLt trips_eq
  have key : ∀ q, k0_pay8 (F := Ideal) a.1 (ix2 q 0) =
      BitVec.ofNat 32 (sortedFrom (lexB (D q)) ⟨k.val, by omega⟩).val := by
    intro q
    obtain ⟨i, hi, hf⟩ := exists_first fun j => a.1 (ix2 q j)
    rw [pay8_apply a.1 q i hi hf]
    rw [round_eq (D q) (hD q) ⟨k.val, by omega⟩ (fun j => a.1 (ix2 q j)) (fun j => ?_) i hi hf]
    rw [h.1 q j]
    congr
  constructor
  · intro q j
    pointwise [k0_pay10]
    rw [key q, select_eq (by omega) (by omega), h.1 q j, top_lit]
    by_cases e : j.val = (sortedFrom (lexB (D q)) ⟨k.val, by omega⟩).val
    · rw [if_pos e, if_pos ⟨⟨k.val, by omega⟩, Nat.lt_succ_self _, Fin.ext e.symm⟩]
    · rw [if_neg e]
      have : (∃ k' : Fin 1024, k'.val < k.val + 1 ∧ sortedFrom (lexB (D q)) k' = j) ↔
          ∃ k' : Fin 1024, k'.val < k.val ∧ sortedFrom (lexB (D q)) k' = j := by
        constructor
        · rintro ⟨k', hk', rfl⟩
          refine ⟨k', lt_of_le_of_ne (Nat.lt_succ_iff.mp hk') fun e' => e ?_, rfl⟩
          have : k' = ⟨k.val, by omega⟩ := Fin.ext e'
          rw [this]
        · rintro ⟨k', hk', rfl⟩
          exact ⟨k', by omega, rfl⟩
      simp only [this]
  · intro q k' hk'
    pointwise [k0_pay9]
    rw [key q, iv_eq, select_eq (by omega) (by omega)]
    by_cases e : k'.val = k.val
    · rw [if_pos e]
      have : (⟨k.val, by omega⟩ : Fin 1024) = k'.castLE (by norm_num) := Fin.ext e.symm
      rw [this]; rfl
    · rw [if_neg e]
      exact h.2 q k' (by omega)

/-- The columns after every round: row `q` holds the first thirty of its distances' order. -/
theorem fold_apply (d : FVec Ideal S64x1024 .f32) (D : Fin 64 → Fin 1024 → EReal) (hd : ∀ q j, d (ix2 q j) = D q j)
    (hD : ∀ q j, D q j < ⊤) (acc : IVec S64x30 32) (q : Fin 64) (k : Fin 30) :
    ((List.finRange k0_t1_loop.trips).foldl
      (fun (a : FVec Ideal S64x1024 .f32 × IVec S64x30 32) t => (k0_pay10 a.1, k0_pay9 t a.1 a.2)) (d, acc)).2 (ix2 q k) =
      BitVec.ofNat 32 (sel (D q) k).val := by
  have := foldl_finRange_inv (n := k0_t1_loop.trips)
    (fun t (a : FVec Ideal S64x1024 .f32 × IVec S64x30 32) => (k0_pay10 a.1, k0_pay9 t a.1 a.2)) (Inv D) (d, acc)
    ⟨fun q j => by rw [if_neg (by rintro ⟨k', h, -⟩; omega)]; exact hd q j, fun q k' h => absurd h (by omega)⟩
    (fun t a h => step D hD t a h)
  exact this.2 q k (lt_of_lt_of_eq k.isLt trips_eq.symm)

end Cert.KSel

end
-- ==== Proof.KGather.lean ====
/-
  The kernel's edge lanes: lane `e` is edge `e % 30` of query row `e / 30`; its neighbor is the column that row's list holds
  there; and the gathers of the coordinates, products with one-hot columns, read the neighbor's and the query's rows.
-/
module

public import proofs.«01_k».proof.Proof.KSel

@[expose] public section

set_option maxRecDepth 16384

noncomputable section

namespace Cert.KGather

open Idealize.ShloMosaic Cert.KernelIdeal Cert.KernelIdeal.Gen Cert.TopSel Cert.Consts Cert.Spec Cert.KSel

theorem sitofp_eq {w : Nat} (b : BitVec w) : (FloatOps.sitofp (F := Ideal) FTy.f32 b : EReal) = ((b.toInt : ℝ) : EReal) :=
  rfl

/-- A comparison's bit as a float: one where equal, zero elsewhere. -/
theorem oneHot {a b : Nat} (ha : a < 2147483648) (hb : b < 2147483648) :
    (FloatOps.sitofp (F := Ideal) FTy.f32 (BitVec.setWidth 32 (IntOp.cmpi .eq (BitVec.ofNat 32 a) (BitVec.ofNat 32 b))) :
      EReal) = if a = b then 1 else 0 := by
  by_cases h : a = b
  · subst h
    simp [IntOp.cmpi, sitofp_eq]
  · have : BitVec.ofNat 32 a ≠ BitVec.ofNat 32 b := fun e => h (ofNat_inj ha hb e)
    have hb : (BitVec.ofNat 32 a == BitVec.ofNat 32 b) = false := by simpa using this
    rw [if_neg h, IntOp.cmpi, hb]
    simp [sitofp_eq]

/-- A sum against a one-hot column reads one entry. -/
theorem sum_oneHot {n : Nat} (hn : n < 2147483648) (g : Fin n → EReal) (k : Fin n) :
    ∑ x : Fin n, g x * (FloatOps.sitofp (F := Ideal) FTy.f32 (BitVec.setWidth 32
      (IntOp.cmpi .eq (BitVec.ofNat 32 x.val) (BitVec.ofNat 32 k.val))) : EReal) = g k := by
  rw [Finset.sum_eq_single k]
  · rw [oneHot (by omega) (by omega), if_pos rfl, mul_one]
  · intro b _ hb
    rw [oneHot (by omega) (by omega), if_neg (fun e => hb (Fin.ext e)), mul_zero]
  · intro h; exact absurd (Finset.mem_univ _) h

theorem fptosi_nat (r : ℝ) (n : Nat) (hn : n < 2147483647) (h0 : (n : ℝ) ≤ r) (h1 : r < n + 1) :
    FloatOps.fptosi (F := Ideal) (φ := .f32) 32 (r : EReal) = BitVec.ofNat 32 n := by
  have hf : ⌊r⌋ = (n : Int) := by
    rw [Int.floor_eq_iff]; exact ⟨by exact_mod_cast h0, by exact_mod_cast h1⟩
  have hr : (0 : ℝ) ≤ r := le_trans (Nat.cast_nonneg n) h0
  show Ideal.fptosi 32 (r : EReal) = _
  rw [Ideal.fptosi]
  have : Ideal.toIntClamped (-(2 ^ (32 - 1) : Nat)) ((2 ^ (32 - 1) : Nat) - 1) (r : EReal) = (n : Int) := by
    show max _ (min _ (if 0 ≤ r then ⌊r⌋ else ⌈r⌉)) = _
    rw [if_pos hr, hf]
    norm_num
    omega
  rw [this]
  simp

theorem sitofp_nat {n : Nat} (hn : n < 2147483648) :
    (FloatOps.sitofp (F := Ideal) FTy.f32 (BitVec.ofNat 32 n) : EReal) = ((n : ℝ) : EReal) := by
  rw [sitofp_eq, toInt_ofNat_small hn]
  simp

/-- The scale by which a lane number becomes its query row. -/
theorem third_lit : Ideal.ofBits FTy.f32 0x3D088889#32 = ((8947849 / 268435456 : ℝ) : EReal) := by
  simp [Ideal.ofBits, Ideal.ieee, -EReal.coe_mul]; norm_num

theorem pay12_apply (e : Fin 1920) : k0_pay12 (F := Ideal) (ix2 0 e) = BitVec.ofNat 32 (e.val / 30) := by
  pointwise [k0_pay12]
  rw [sitofp_nat (by omega), third_lit, ← EReal.coe_mul]
  have h1 : e.val = 30 * (e.val / 30) + e.val % 30 := (Nat.div_add_mod _ _).symm
  have h2 : e.val % 30 < 30 := Nat.mod_lt _ (by norm_num)
  have h3 : e.val / 30 < 64 := by omega
  have h1' : (e.val : ℝ) = 30 * ((e.val / 30 : Nat) : ℝ) + ((e.val % 30 : Nat) : ℝ) := by exact_mod_cast h1
  have h2' : ((e.val % 30 : Nat) : ℝ) ≤ 29 := by exact_mod_cast (by omega : e.val % 30 ≤ 29)
  have h2'' : (0 : ℝ) ≤ ((e.val % 30 : Nat) : ℝ) := Nat.cast_nonneg _
  have h3' : ((e.val / 30 : Nat) : ℝ) ≤ 63 := by exact_mod_cast (by omega : e.val / 30 ≤ 63)
  have h3'' : (0 : ℝ) ≤ ((e.val / 30 : Nat) : ℝ) := Nat.cast_nonneg _
  refine fptosi_nat _ _ (by omega) ?_ ?_
  · rw [h1']; nlinarith
  · rw [h1']; nlinarith

theorem pay13_apply (k : Fin 30) (e : Fin 1920) :
    k0_pay13 (F := Ideal) (ix2 k e) = if k.val = e.val % 30 then (1 : EReal) else 0 := by
  pointwise [k0_pay13]
  rw [pay12_apply]
  have : IntOp.subi (BitVec.ofNat 32 e.val) (IntOp.muli (30#32) (BitVec.ofNat 32 (e.val / 30))) =
      BitVec.ofNat 32 (e.val % 30) := by
    have h : BitVec.ofNat 32 e.val = BitVec.ofNat 32 (e.val % 30) + 30#32 * BitVec.ofNat 32 (e.val / 30) := by
      conv_lhs => rw [← Nat.mod_add_div e.val 30]
      rw [BitVec.ofNat_add, BitVec.ofNat_mul]
    show BitVec.ofNat 32 e.val - 30#32 * BitVec.ofNat 32 (e.val / 30) = _
    rw [h, BitVec.add_sub_cancel]
  rw [this]
  exact oneHot (by omega) (by omega)

theorem cmpi_sge_small {a b : Nat} (ha : a < 2147483648) (hb : b < 2147483648) :
    IntOp.cmpi .sge (BitVec.ofNat 32 a) (BitVec.ofNat 32 b) = BitVec.ofBool (decide (b ≤ a)) := by
  simp only [IntOp.cmpi, BitVec.sle, toInt_ofNat_small ha, toInt_ofNat_small hb, Nat.cast_le]

theorem cmpi_slt_small {a b : Nat} (ha : a < 2147483648) (hb : b < 2147483648) :
    IntOp.cmpi .slt (BitVec.ofNat 32 a) (BitVec.ofNat 32 b) = BitVec.ofBool (decide (a < b)) := by
  simp only [IntOp.cmpi, BitVec.slt, toInt_ofNat_small ha, toInt_ofNat_small hb, Nat.cast_lt]

/-- The lane belongs to query row `q`. -/
theorem in_row {α : Type} (e : Fin 1920) (q : Fin 64) (x y : α) :
    Scalar.select (IntOp.andi (IntOp.cmpi .sge (BitVec.ofNat 32 e.val) (IntOp.muli (30#32) (BitVec.ofNat 32 q.val)))
      (IntOp.cmpi .slt (BitVec.ofNat 32 e.val) (IntOp.addi (IntOp.muli (30#32) (BitVec.ofNat 32 q.val)) 30#32))) x y =
      if q.val = e.val / 30 then x else y := by
  have h1 : IntOp.muli (30#32) (BitVec.ofNat 32 q.val) = BitVec.ofNat 32 (30 * q.val) := by
    simp only [IntOp.muli]; rw [BitVec.ofNat_mul]
  have h2 : IntOp.addi (BitVec.ofNat 32 (30 * q.val)) 30#32 = BitVec.ofNat 32 (30 * q.val + 30) := by
    simp only [IntOp.addi]; rw [BitVec.ofNat_add]
  rw [h1, h2, cmpi_sge_small (by omega) (by omega), cmpi_slt_small (by omega) (by omega)]
  by_cases h : q.val = e.val / 30
  · rw [if_pos h, decide_eq_true (by omega), decide_eq_true (by omega)]; rfl
  · rw [if_neg h]
    by_cases h3 : 30 * q.val ≤ e.val
    · rw [decide_eq_true h3, decide_eq_false (show ¬ e.val < 30 * q.val + 30 by omega)]; rfl
    · rw [decide_eq_false h3]
      cases decide (e.val < 30 * q.val + 30) <;> rfl

/-- The query row and the place in its list of a lane. -/
def row (e : Fin 1920) : Fin 64 := ⟨e.val / 30, by omega⟩
def place (e : Fin 1920) : Fin 30 := ⟨e.val % 30, by omega⟩

/-- The neighbor word of every lane. -/
theorem pay15_apply (acc : IVec S64x30 32) (s : Fin 64 → Fin 30 → Fin 1024)
    (hacc : ∀ q k, acc (ix2 q k) = BitVec.ofNat 32 (s q k).val) (v80 : IVec S1x1920 32)
    (h80 : ∀ e : Fin 1920, v80 (ix2 0 e) = BitVec.ofNat 32 e.val) (z : FVec Ideal S64x1920 .f32) (hz : ∀ q e, z (ix2 q e) = 0)
    (e : Fin 1920) :
    k0_pay15 (F := Ideal) v80 k0_pay13 (k0_pay14 acc) z (ix2 0 e) = BitVec.ofNat 32 (s (row e) (place e)).val := by
  pointwise [k0_pay15, k0_pay14]
  simp only [h80, in_row, hz, zero_add, hacc, pay13_apply]
  have h : (∑ q : Fin 64, if q.val = e.val / 30 then
      ∑ k : Fin 30, (FloatOps.sitofp (F := Ideal) FTy.f32 (BitVec.ofNat 32 (s q k).val) : EReal) *
        (if k.val = e.val % 30 then (1 : EReal) else 0) else 0) = (((s (row e) (place e)).val : ℝ) : EReal) := by
    rw [Finset.sum_eq_single (row e)]
    · rw [if_pos (show (row e).val = e.val / 30 from rfl), Finset.sum_eq_single (place e)]
      · rw [if_pos (show (place e).val = e.val % 30 from rfl), mul_one, sitofp_nat (by omega)]
      · intro b _ hb
        rw [if_neg (show ¬ b.val = e.val % 30 from fun e' => hb (Fin.ext e')), mul_zero]
      · intro h; exact absurd (Finset.mem_univ _) h
    · intro b _ hb
      rw [if_neg (show ¬ b.val = e.val / 30 from fun e' => hb (Fin.ext e'))]
    · intro h; exact absurd (Finset.mem_univ _) h
  rw [h]
  exact fptosi_nat _ _ (by omega) le_rfl (lt_add_one _)

theorem pay16_apply (i : Nat) (hi : i < 16) (e : Fin 1920) :
    k0_pay16 (BitVec.ofNat 32 i) (k0_pay12 (F := Ideal)) (ix2 0 e) = BitVec.ofNat 32 (i * 64 + e.val / 30) := by
  pointwise [k0_pay16]
  rw [pay12_apply]
  simp only [IntOp.addi, Scalar.muli, IntOp.muli]
  rw [BitVec.ofNat_add, BitVec.ofNat_mul]

/-- The neighbor's coordinates. -/
theorem pay17_apply (x : FVec Ideal S21x1024 .f32) (acc : IVec S64x30 32) (s : Fin 64 → Fin 30 → Fin 1024)
    (hacc : ∀ q k, acc (ix2 q k) = BitVec.ofNat 32 (s q k).val) (v80 : IVec S1x1920 32)
    (h80 : ∀ e : Fin 1920, v80 (ix2 0 e) = BitVec.ofNat 32 e.val) (z : FVec Ideal S64x1920 .f32) (hz : ∀ q e, z (ix2 q e) = 0)
    (f : Fin 21) (e : Fin 1920) :
    k0_pay17 (F := Ideal) x v80 k0_pay13 (k0_pay14 acc) z (ix2 f e) = x (ix2 f (s (row e) (place e))) := by
  pointwise [k0_pay17]
  rw [pay15_apply acc s hacc v80 h80 z hz e]
  exact sum_oneHot (by norm_num) (fun j => x (ix2 f j)) (s (row e) (place e))

/-- The query's coordinates. -/
theorem pay18_apply (i : Fin 16) (x : FVec Ideal S21x1024 .f32) (f : Fin 21) (e : Fin 1920) :
    k0_pay18 (F := Ideal) (BitVec.ofNat 32 i.val) x (k0_pay12 (F := Ideal)) (ix2 f e) =
      x (ix2 f ⟨i.val * 64 + e.val / 30, by omega⟩) := by
  pointwise [k0_pay18]
  rw [pay16_apply i.val i.isLt e]
  exact sum_oneHot (by norm_num) (fun j => x (ix2 f j)) ⟨i.val * 64 + e.val / 30, by omega⟩

end Cert.KGather

end
-- ==== Proof.KRead.lean ====
/-
  What the block's values are at an index, as the scalar functions of the arguments.
-/
module

public import proofs.«01_k».proof.Proof.KBlock
public import proofs.«01_k».proof.Proof.KGather
public import Idealize.ShloMosaic.Lib.Pointwise

@[expose] public section

set_option maxRecDepth 16384

noncomputable section

namespace Cert.KRead

open Idealize.ShloMosaic Cert.KernelIdeal Cert.KernelIdeal.Gen Cert.Consts Cert.Spec Cert.KBlock Cert.KGather

/-- A select on two words' equality is a choice. -/
theorem select_cmpi {α : Type} {w : Nat} (x y : BitVec w) (a b : α) :
    Scalar.select (IntOp.cmpi .eq x y) a b = if x = y then a else b := by
  unfold Scalar.select IntOp.cmpi
  by_cases h : x = y
  · simp [h]
  · have hb : (x == y) = false := by simpa using h
    rw [if_neg h]
    simp only [hb]
    exact if_neg (by decide)

/-- The coordinates with the placed atom appended. -/
theorem pay3_apply (X : Fin 1024 → Fin 6 → Fin 3 → EReal) (x0 : Vec Ideal S1x18x1024 .f32)
    (hx : ∀ j (a : Fin 6) (k : Fin 3), x0 (ix3 0 ⟨3 * a.val + k.val, by omega⟩ j) = X j a k) (j : Fin 1024) (a : Fin 7)
    (k : Fin 3) : k0_pay3 x0 (ix2 ⟨3 * a.val + k.val, by omega⟩ j) = atom (X j) a k := by
  by_cases ha : a.val < 6
  · pointwise [k0_pay3, k0_pay2]
    rw [dif_pos (by omega), atom, dif_pos ha, ← hx]
  · obtain rfl : a = 6 := by omega
    unfold atom
    rw [dif_neg ha]
    unfold cbeta cross
    fin_cases k
    · show k0_pay3 x0 (ix2 ⟨18, by norm_num⟩ j) = _
      pointwise [k0_pay3, k0_pay2]
      simp only [← hx]; rfl
    · show k0_pay3 x0 (ix2 ⟨19, by norm_num⟩ j) = _
      pointwise [k0_pay3, k0_pay2]
      simp only [← hx]; rfl
    · show k0_pay3 x0 (ix2 ⟨20, by norm_num⟩ j) = _
      pointwise [k0_pay3, k0_pay2]
      simp only [← hx]; rfl

/-- The centers of the radial features. -/
theorem pay19_apply (r : Fin 16) :
    k0_pay19 (F := Ideal) (ix2 r 0) = Ideal.ofBits FTy.f32 0x40000000#32 + ((r.val : ℝ) : EReal) * ((4 / 3 : ℝ) : EReal) := by
  pointwise [k0_pay19]
  rw [sitofp_nat (by omega), show (Named.named κ "mu_step" 0x3FAAAAAB#32 : Ideal .f32) = ((4 / 3 : ℝ) : EReal) from
    IdealRules.named_const.ideal_named_scalar _ _ _ _ rfl]

/-- A block of radial features is the feature of the two atoms' distance. -/
theorem chunk_apply (xq xg : FVec Ideal S21x1920 .f32) (ai aj : Fin 7) (r : Fin 16) (e : Fin 1920) :
    chunk xq xg ai aj (ix2 r e) = rbf (gap (fun k => xq (ix2 ⟨3 * ai.val + k.val, by omega⟩ e))
      (fun k => xg (ix2 ⟨3 * aj.val + k.val, by omega⟩ e))) r := by
  pointwise [chunk]
  rw [pay19_apply, show (Named.named κ "inv_sigma" 0x3F4CCCCD#32 : Ideal .f32) = ((4 / 5 : ℝ) : EReal) from
    IdealRules.named_const.ideal_named_scalar _ _ _ _ rfl]
  rfl

/-- The position columns are the indicator of the clipped difference. -/
theorem posHot_apply (nrow qrow : IVec S1x1920 32) (d : Fin 66) (e : Fin 1920) (q n : Nat) (hq : q < 1024) (hn : n < 1024)
    (hnr : nrow (ix2 0 e) = BitVec.ofNat 32 n) (hqr : qrow (ix2 0 e) = BitVec.ofNat 32 q) :
    posHot nrow qrow (ix2 d e) = if d.val = bucket q n then 1 else 0 := by
  pointwise [posHot, k0_pay119, k0_pay120]
  rw [hnr, hqr, bucket_word hq hn, oneHot (by omega) (by unfold bucket; omega)]

/-- The edge rows are the normalized products. -/
theorem edgeOut_apply (m : FVec Ideal S850x1920 .f32) (w : FVec Ideal S850x128 .f32) (g b : FVec Ideal S1x128 .f32)
    (e : Fin 1920) (c : Fin 128) :
    edgeOut m w g b (ix3 0 e c) = lnorm (fun c => ∑ f : Fin 850, m (ix2 f e) * w (ix2 f c)) (fun c => g (ix2 0 c))
      (fun c => b (ix2 0 c)) c := by
  pointwise [edgeOut]
  rfl

/-- The node rows are the normalized picked rows. -/
theorem node_apply (x2 : Vec Ideal S1x1x64x1 .i32) (x4 : Vec Ideal S3x128 .f32) (x5 x6 : Vec Ideal S1x128 .f32)
    (q : Fin 64) (c : Fin 128) :
    k0_pay1 (k0_pay122 x2 x4 x5) (k0_pay123 x6) (ix3 0 q c) =
      lnorm (fun c => pick (x2 (ix4 0 0 q 0)) (x4 (ix2 0 c)) (x4 (ix2 1 c)) (x4 (ix2 2 c))) (fun c => x5 (ix2 0 c))
        (fun c => x6 (ix2 0 c)) c := by
  pointwise [k0_pay1, k0_pay122, k0_pay123]
  simp only [select_cmpi]
  rfl

/-- The neighbor list's output block. -/
theorem pay11_apply (n : IVec S64x30 32) (q : Fin 64) (k : Fin 30) : k0_pay11 n (ix4 0 0 q k) = n (ix2 q k) := by
  pointwise [k0_pay11]

/-- The stacked matrix's rows below 784 are the radial features. -/
theorem edgeMat_rbf (ch : Fin 49 → FVec Ideal S16x1920 .f32) (oh : FVec Ideal S66x1920 .f32) (p : Fin 49) (r : Fin 16)
    (e : Fin 1920) : edgeMat ch oh (ix2 ⟨16 * p.val + r.val, by omega⟩ e) = ch p (ix2 r e) := by
  have hk : p.val < ((List.ofFn fun n : Fin 49 => (⟨S16x1920, ch n⟩ : (s : Shape) × (s.Idx → EReal))) ++
      [(⟨S66x1920, oh⟩ : (s : Shape) × (s.Idx → EReal))]).length := by simp; omega
  unfold edgeMat
  refine concatenate_apply_piece (t := S850x1920) 0 _ _ _ p.val hk S16x1920 (ch p) ?_ rfl (16 * p.val) ?_ _ ?_ ?_
  · rw [List.getElem_append_left (by simp), List.getElem_ofFn]
  · rw [List.map_take, map_fst]
    exact (by decide +kernel : ∀ p : Fin 49, (((List.replicate 49 S16x1920 ++ [S66x1920]).take p.val).map fun s =>
      if h : s.rank = S850x1920.rank then s.size ((0 : Fin 2).cast h.symm) else 0).sum = 16 * p.val) p
  · intro b hb
    fin_cases b
    · exact absurd rfl hb
    · rfl
  · rfl

/-- The stacked matrix's last rows are the position columns. -/
theorem edgeMat_pos (ch : Fin 49 → FVec Ideal S16x1920 .f32) (oh : FVec Ideal S66x1920 .f32) (d : Fin 66)
    (e : Fin 1920) : edgeMat ch oh (ix2 ⟨784 + d.val, by omega⟩ e) = oh (ix2 d e) := by
  have hk : 49 < ((List.ofFn fun n : Fin 49 => (⟨S16x1920, ch n⟩ : (s : Shape) × (s.Idx → EReal))) ++
      [(⟨S66x1920, oh⟩ : (s : Shape) × (s.Idx → EReal))]).length := by simp
  unfold edgeMat
  refine concatenate_apply_piece (t := S850x1920) 0 _ _ _ 49 hk S66x1920 oh ?_ rfl 784 ?_ _ ?_ ?_
  · rw [List.getElem_append_right (by simp)]
    simp
  · rw [List.map_take, map_fst]
    decide +kernel
  · intro b hb
    fin_cases b
    · exact absurd rfl hb
    · rfl
  · rfl

/-- The block's distances. -/
theorem gap_apply (X : Fin 1024 → Fin 6 → Fin 3 → EReal) (x0 : Vec Ideal S1x18x1024 .f32)
    (hx : ∀ j (a : Fin 6) (k : Fin 3), x0 (ix3 0 ⟨3 * a.val + k.val, by omega⟩ j) = X j a k)
    (n : Fin 16) (x1 : Vec Ideal S1x64x18 .f32)
    (hx1 : ∀ (q : Fin 64) (a : Fin 6) (k : Fin 3), x1 (ix3 0 q ⟨3 * a.val + k.val, by omega⟩) =
      X ⟨n.val * 64 + q.val, by omega⟩ a k) (q : Fin 64) (j : Fin 1024) :
    k0_pay6 (k0_pay4 x0) (k0_pay5 x1) (ix2 q j) = gap (rep (X ⟨n.val * 64 + q.val, by omega⟩)) (rep (X j)) := by
  pointwise [k0_pay6, k0_pay4, k0_pay5, k0_pay2]
  unfold gap rep
  simp only [← hx1]
  simp only [← hx]
  rfl

/-- The block's neighbor list. -/
theorem nbrs_apply (X : Fin 1024 → Fin 6 → Fin 3 → EReal) (hX : ∀ j a k, ∃ r : ℝ, X j a k = r) (x0 : Vec Ideal S1x18x1024 .f32)
    (hx : ∀ j (a : Fin 6) (k : Fin 3), x0 (ix3 0 ⟨3 * a.val + k.val, by omega⟩ j) = X j a k)
    (n : Fin 16) (x1 : Vec Ideal S1x64x18 .f32)
    (hx1 : ∀ (q : Fin 64) (a : Fin 6) (k : Fin 3), x1 (ix3 0 q ⟨3 * a.val + k.val, by omega⟩) =
      X ⟨n.val * 64 + q.val, by omega⟩ a k) (q : Fin 64) (k : Fin 30) :
    nbrs x0 x1 (ix2 q k) = BitVec.ofNat 32 (nbr X ⟨n.val * 64 + q.val, by omega⟩ k).val := by
  have hr : ∀ j k, ∃ r : ℝ, rep (X j) k = r := by
    intro j k
    obtain ⟨a, ha⟩ := hX j 1 k
    obtain ⟨b, hb⟩ := hX j 4 k
    exact ⟨a + b, by rw [rep, ha, hb, EReal.coe_add]⟩
  unfold nbrs
  rw [Scf.fold_eq]
  exact KSel.fold_apply (k0_pay6 (k0_pay4 x0) (k0_pay5 x1))
    (fun q j => gap (rep (X ⟨n.val * 64 + q.val, by omega⟩)) (rep (X j)))
    (gap_apply X x0 hx n x1 hx1) (fun q j => gap_lt_top _ _ (hr _) (hr _)) _ q k

theorem lane_apply (e : Fin 1920) : lane (ix2 0 e) = BitVec.ofNat 32 e.val := by
  pointwise [lane]

theorem zeros_apply (q : Fin 64) (e : Fin 1920) : zeros (ix2 q e) = 0 := by
  pointwise [zeros]

/-- The edge block at an index. -/
theorem edgeBlock_apply (X : Fin 1024 → Fin 6 → Fin 3 → EReal) (hX : ∀ j a k, ∃ r : ℝ, X j a k = r) (x0 : Vec Ideal S1x18x1024 .f32)
    (hx : ∀ j (a : Fin 6) (k : Fin 3), x0 (ix3 0 ⟨3 * a.val + k.val, by omega⟩ j) = X j a k)
    (n : Fin 16) (x1 : Vec Ideal S1x64x18 .f32)
    (hx1 : ∀ (q : Fin 64) (a : Fin 6) (k : Fin 3), x1 (ix3 0 q ⟨3 * a.val + k.val, by omega⟩) =
      X ⟨n.val * 64 + q.val, by omega⟩ a k) (x3 : Vec Ideal S850x128 .f32) (x7 x8 : Vec Ideal S1x128 .f32)
    (e : Fin 1920) (c : Fin 128) :
    edgeBlock n.val x0 x1 x3 x7 x8 (ix3 0 e c) =
      lnorm (fun c => ∑ f : Fin 850, feat X ⟨n.val * 64 + e.val / 30, by omega⟩
        (nbr X ⟨n.val * 64 + e.val / 30, by omega⟩ (place e)) f * x3 (ix2 f c)) (fun c => x7 (ix2 0 c)) (fun c => x8 (ix2 0 c)) c := by
  have hn := nbrs_apply X hX x0 hx n x1 hx1
  unfold edgeBlock
  rw [edgeOut_apply]
  refine congrArg (fun y => lnorm y (fun c => x7 (ix2 0 c)) (fun c => x8 (ix2 0 c)) c) (funext fun c =>
    Finset.sum_congr rfl fun f _ => congrArg (· * x3 (ix2 f c)) ?_)
  unfold feat
  by_cases hf : f.val < 784
  · rw [if_pos hf]
    have key := edgeMat_rbf (fun k => chunk (qCoords n.val x0) (nCoords x0 x1) ⟨k.val / 7, by omega⟩ ⟨k.val % 7, by omega⟩)
      (posHot (nRow x0 x1) (k0_pay16 (BitVec.ofNat 32 n.val) (k0_pay12 (F := Ideal)))) ⟨f.val / 16, by omega⟩
      ⟨f.val % 16, by omega⟩ e
    have hfe : (⟨16 * (f.val / 16) + f.val % 16, by omega⟩ : Fin 850) = f := Fin.ext (by show 16 * (f.val / 16) + f.val % 16 = f.val; omega)
    rw [show (ix2 (⟨16 * ((⟨f.val / 16, by omega⟩ : Fin 49)).val + ((⟨f.val % 16, by omega⟩ : Fin 16)).val, by dsimp only; omega⟩ : Fin 850) e : S850x1920.Idx) = ix2 f e by congr] at key
    rw [key, chunk_apply]
    refine congrArg₂ (fun p q => rbf (gap p q) _) (funext fun k => ?_) (funext fun k => ?_)
    · unfold qCoords
      rw [pay18_apply, pay3_apply X x0 hx]
      refine congrArg (fun a => atom _ a k) (Fin.ext ?_)
      exact (by show f.val / 16 / 7 = f.val / 16 / 7 % 7; omega)
    · unfold nCoords
      rw [pay17_apply (k0_pay3 x0) (nbrs x0 x1) (fun q k => nbr X ⟨n.val * 64 + q.val, by omega⟩ k) hn lane lane_apply zeros
        zeros_apply, pay3_apply X x0 hx]
      rfl
  · rw [if_neg hf]
    have key := edgeMat_pos (fun k => chunk (qCoords n.val x0) (nCoords x0 x1) ⟨k.val / 7, by omega⟩ ⟨k.val % 7, by omega⟩)
      (posHot (nRow x0 x1) (k0_pay16 (BitVec.ofNat 32 n.val) (k0_pay12 (F := Ideal)))) ⟨f.val - 784, by omega⟩ e
    have hfe : (⟨784 + (f.val - 784), by omega⟩ : Fin 850) = f := Fin.ext (by show 784 + (f.val - 784) = f.val; omega)
    rw [show (ix2 (⟨784 + ((⟨f.val - 784, by omega⟩ : Fin 66)).val, by dsimp only; omega⟩ : Fin 850) e : S850x1920.Idx) = ix2 f e by congr] at key
    rw [key]
    unfold nRow
    rw [posHot_apply _ _ _ e (n.val * 64 + e.val / 30) _ (by omega) (Fin.isLt _)
      (pay15_apply (nbrs x0 x1) (fun q k => nbr X ⟨n.val * 64 + q.val, by omega⟩ k) hn lane lane_apply zeros zeros_apply e)
      (pay16_apply n.val n.isLt e)]
    rfl

end Cert.KRead
end
-- ==== Proof.KHost.lean ====
/-
  The arrays the region reads, at an index, as elements of the arguments.
-/
module

public import proofs.«01_k».proof.Proof.Gen.KernelIdeal.Value
public import proofs.«01_k».proof.Proof.Spec
public import Idealize.ShloMosaic.Lib.StableHlo.ReadAt
public import Idealize.ShloMosaic.Lib.Pointwise

@[expose] public section

set_option maxRecDepth 16384

noncomputable section

namespace Cert.KHost

open Idealize.ShloMosaic Idealize.ShloMosaic.TcCoe Cert.KernelIdeal Cert.KernelIdeal.Gen Cert.Consts Cert.Spec

variable (m : (ℓ : Loc nD τ sig) → Buf (Elt Ideal) ℓ)

/-- The arguments by their coordinates. -/
def aX (c : Dev nD) (b : Fin 2) : Fin 1024 → Fin 6 → Fin 3 → EReal :=
  fun l a k => (m (c.tc.loc main_arg0) : Vec Ideal S2x1024x6x3 .f32) (ix4 b l a k)
def aT (c : Dev nD) (b : Fin 2) (l : Fin 1024) : BitVec 32 := (m (c.tc.loc main_arg8) : Vec Ideal S2x1024 .i32) (ix2 b l)
def aWn (c : Dev nD) : Fin 128 → Fin 3 → EReal := fun e f => (m (c.tc.loc main_arg9) : Vec Ideal S128x3 .f32) (ix2 e f)
def aWe (c : Dev nD) : Fin 128 → Fin 1040 → EReal := fun e f => (m (c.tc.loc main_arg10) : Vec Ideal S128x1040 .f32) (ix2 e f)
def aGn (c : Dev nD) : Fin 128 → EReal := fun e => (m (c.tc.loc main_arg11) : Vec Ideal S128 .f32) (ix1 e)
def aBn (c : Dev nD) : Fin 128 → EReal := fun e => (m (c.tc.loc main_arg12) : Vec Ideal S128 .f32) (ix1 e)
def aGe (c : Dev nD) : Fin 128 → EReal := fun e => (m (c.tc.loc main_arg13) : Vec Ideal S128 .f32) (ix1 e)
def aBe (c : Dev nD) : Fin 128 → EReal := fun e => (m (c.tc.loc main_arg14) : Vec Ideal S128 .f32) (ix1 e)
def aPw (c : Dev nD) : Fin 16 → Fin 66 → EReal := fun d f => (m (c.tc.loc main_arg15) : Vec Ideal S16x66 .f32) (ix2 d f)
def aPb (c : Dev nD) : Fin 16 → EReal := fun d => (m (c.tc.loc main_arg16) : Vec Ideal S16 .f32) (ix1 d)

/-- The transposed coordinates. -/
theorem v1_apply (c : Dev nD) (b : Fin 2) (l : Fin 1024) (a : Fin 6) (k : Fin 3) :
    (V m c main_call0_v1 : Vec Ideal S2x18x1024 .f32) (ix3 b ⟨3 * a.val + k.val, by omega⟩ l) = aX m c b l a k := by
  unfold V aX
  after_reads_at
  have h1 : (3 * a.val + k.val) / 3 = a.val := by omega
  have h2 : (3 * a.val + k.val) % 3 = k.val := by omega
  simp only [h1, h2]

/-- The flattened coordinates. -/
theorem v0_apply (c : Dev nD) (b : Fin 2) (l : Fin 1024) (a : Fin 6) (k : Fin 3) :
    (V m c main_call0_v0 : Vec Ideal S2x1024x18 .f32) (ix3 b l ⟨3 * a.val + k.val, by omega⟩) = aX m c b l a k := by
  unfold V aX
  after_reads_at

/-- The type numbers by blocks. -/
theorem v2_apply (c : Dev nD) (b : Fin 2) (n : Fin 16) (q : Fin 64) :
    (V m c main_call0_v2 : Vec Ideal S2x16x64x1 .i32) (ix4 b n q 0) = aT m c b ⟨n.val * 64 + q.val, by omega⟩ := by
  unfold V aT
  after_reads_at

/-- The stacked weights. -/
theorem v15_apply (c : Dev nD) (f : Fin 850) (e : Fin 128) :
    (V m c main_call0_v15 : Vec Ideal S850x128 .f32) (ix2 f e) = weight (aWe m c) (aPw m c) (aPb m c) f e := by
  unfold weight
  by_cases hf : f.val < 784
  · rw [if_pos hf]
    obtain ⟨f, hf'⟩ := f
    obtain ⟨f', rfl⟩ : ∃ f' : Fin 784, f = f'.val := ⟨⟨f, hf⟩, rfl⟩
    unfold V aWe
    after_reads_at
    after_reads_at
    have h1 : f'.val / 112 * 128 + f'.val / 16 % 7 * 16 = 128 * (f'.val / 16 / 7 % 7) + 16 * (f'.val / 16 % 7) := by omega
    simp only [h1]
  · rw [if_neg hf]
    obtain ⟨f, hf'⟩ := f
    obtain ⟨f', rfl⟩ : ∃ f' : Fin 66, f = 784 + f'.val :=
      ⟨⟨f - 784, by omega⟩, by show f = 784 + (f - 784); have : ¬f < 784 := hf; omega⟩
    unfold V aWe aPw aPb
    after_reads_at
    after_reads_at
    refine Finset.sum_congr rfl fun x _ => ?_
    have h1 : (784 + f'.val - 784) % 66 = f'.val := by omega
    simp only [Nat.add_sub_cancel_left, Nat.mod_eq_of_lt f'.isLt]

theorem v16_apply (c : Dev nD) (f : Fin 3) (e : Fin 128) :
    (V m c main_call0_v16 : Vec Ideal S3x128 .f32) (ix2 f e) = aWn m c e f := by
  unfold V aWn
  after_reads_at

theorem v17_apply (c : Dev nD) (e : Fin 128) : (V m c main_call0_v17 : Vec Ideal S1x128 .f32) (ix2 0 e) = aGn m c e := by
  unfold V aGn
  after_reads_at

theorem v18_apply (c : Dev nD) (e : Fin 128) : (V m c main_call0_v18 : Vec Ideal S1x128 .f32) (ix2 0 e) = aBn m c e := by
  unfold V aBn
  after_reads_at

theorem v19_apply (c : Dev nD) (e : Fin 128) : (V m c main_call0_v19 : Vec Ideal S1x128 .f32) (ix2 0 e) = aGe m c e := by
  unfold V aGe
  after_reads_at

theorem v20_apply (c : Dev nD) (e : Fin 128) : (V m c main_call0_v20 : Vec Ideal S1x128 .f32) (ix2 0 e) = aBe m c e := by
  unfold V aBe
  after_reads_at

end Cert.KHost
end
-- ==== Proof.KArrays.lean ====
/-
  The three result arrays after the run, as functions of the arguments.
-/
module

public import proofs.«01_k».proof.Proof.KRead
public import proofs.«01_k».proof.Proof.KHost

@[expose] public section

set_option maxRecDepth 16384

noncomputable section

namespace Cert.KArrays

open Idealize.ShloMosaic Idealize.ShloMosaic.TcCoe Cert.KernelIdeal Cert.KernelIdeal.Gen Cert.KernelIdeal.Value Cert.Consts Cert.Spec
open Cert.KHost Cert.KBlock Cert.KRead Idealize.SL.Sem

variable (m : (ℓ : Loc nD τ sig) → Buf (Elt Ideal) ℓ)

/-- The batch and the row block of a grid point. -/
def bb (t : Fin cfg0.N) : Fin 2 := ⟨t.val / 16, by have : t.val < 32 := t.isLt; omega⟩
def nn (t : Fin cfg0.N) : Fin 16 := ⟨t.val % 16, by omega⟩

theorem coord1 : ∀ t : Fin cfg0.N, ((grid0.coords t) 1).val = t.val % 16 := (by decide +kernel : ∀ t : Fin grid0.N, _)

theorem idx0 : ∀ t : Fin cfg0.N, win0_0.index t (0 : Fin 3) = t.val / 16 ∧ win0_0.index t (1 : Fin 3) = 0 ∧
    win0_0.index t (2 : Fin 3) = 0 := (by decide +kernel : ∀ t : Fin grid0.N, _)
theorem idx1 : ∀ t : Fin cfg0.N, win0_1.index t (0 : Fin 3) = t.val / 16 ∧ win0_1.index t (1 : Fin 3) = t.val % 16 ∧
    win0_1.index t (2 : Fin 3) = 0 := (by decide +kernel : ∀ t : Fin grid0.N, _)
theorem idx2 : ∀ t : Fin cfg0.N, win0_2.index t (0 : Fin 4) = t.val / 16 ∧ win0_2.index t (1 : Fin 4) = t.val % 16 ∧
    win0_2.index t (2 : Fin 4) = 0 ∧ win0_2.index t (3 : Fin 4) = 0 := (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = t.val / 16 ∧ win0_9.index t (1 : Fin 3) = t.val % 16 ∧
    win0_9.index t (2 : Fin 3) = 0 := (by decide +kernel : ∀ t : Fin grid0.N, _)
theorem idx10 : ∀ t : Fin cfg0.N, win0_10.index t (0 : Fin 3) = t.val / 16 ∧ win0_10.index t (1 : Fin 3) = t.val % 16 ∧
    win0_10.index t (2 : Fin 3) = 0 := (by decide +kernel : ∀ t : Fin grid0.N, _)
theorem idx11 : ∀ t : Fin cfg0.N, win0_11.index t (0 : Fin 4) = t.val / 16 ∧ win0_11.index t (1 : Fin 4) = t.val % 16 ∧
    win0_11.index t (2 : Fin 4) = 0 ∧ win0_11.index t (3 : Fin 4) = 0 := (by decide +kernel : ∀ t : Fin grid0.N, _)

/-- Where a block's index lies in its array. -/
theorem emb0 (t : Fin cfg0.N) (f : Fin 18) (j : Fin 1024) :
    ((cfg0.win 0).blk t).view.emb (ix3 0 f j : S1x18x1024.Idx) = (ix3 (bb t) f j : S2x18x1024.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 18 + 1 * f.val = f.val; omega
  | ⟨2, _⟩ => show win0_0.index t (2 : Fin 3) * 1024 + 1 * j.val = j.val; omega

theorem emb1 (t : Fin cfg0.N) (q : Fin 64) (f : Fin 18) :
    ((cfg0.win 1).blk t).view.emb (ix3 0 q f : S1x64x18.Idx) = (ix3 (bb t) ⟨(nn t).val * 64 + q.val, by omega⟩ f : S2x1024x18.Idx) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 64 + 1 * q.val = t.val % 16 * 64 + q.val; omega
  | ⟨2, _⟩ => show win0_1.index t (2 : Fin 3) * 18 + 1 * f.val = f.val; omega

theorem emb2 (t : Fin cfg0.N) (q : Fin 64) :
    ((cfg0.win 2).blk t).view.emb (ix4 0 0 q 0 : S1x1x64x1.Idx) = (ix4 (bb t) (nn t) q 0 : S2x16x64x1.Idx) := by
  obtain ⟨e0, e1, e2, e3⟩ := idx2 t
  funext a; apply Fin.ext
  match a with
  | ⟨0, _⟩ => show win0_2.index t (0 : Fin 4) * 1 + 1 * 0 = t.val / 16; omega
  | ⟨1, _⟩ => show win0_2.index t (1 : Fin 4) * 1 + 1 * 0 = t.val % 16; omega
  | ⟨2, _⟩ => show win0_2.index t (2 : Fin 4) * 64 + 1 * q.val = q.val; omega
  | ⟨3, _⟩ => show win0_2.index t (3 : Fin 4) * 1 + 1 * 0 = 0; omega

theorem emb3 (t : Fin cfg0.N) (f : Fin 850) (e : Fin 128) :
    ((cfg0.win 3).blk t).view.emb (ix2 f e : S850x128.Idx) = (ix2 f e : S850x128.Idx) := by
  obtain ⟨e0, e1⟩ := idx3 t
  funext a; apply Fin.ext
  match a with
  | ⟨0, _⟩ => show win0_3.index t (0 : Fin 2) * 850 + 1 * f.val = f.val; omega
  | ⟨1, _⟩ => show win0_3.index t (1 : Fin 2) * 128 + 1 * e.val = e.val; omega

theorem emb4 (t : Fin cfg0.N) (f : Fin 3) (e : Fin 128) :
    ((cfg0.win 4).blk t).view.emb (ix2 f e : S3x128.Idx) = (ix2 f e : S3x128.Idx) := by
  obtain ⟨e0, e1⟩ := idx4 t
  funext a; apply Fin.ext
  match a with
  | ⟨0, _⟩ => show win0_4.index t (0 : Fin 2) * 3 + 1 * f.val = f.val; omega
  | ⟨1, _⟩ => show win0_4.index t (1 : Fin 2) * 128 + 1 * e.val = e.val; omega

theorem emb5 (t : Fin cfg0.N) (e : Fin 128) :
    ((cfg0.win 5).blk t).view.emb (ix2 0 e : S1x128.Idx) = (ix2 0 e : S1x128.Idx) := by
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 128 + 1 * e.val = e.val; omega

theorem emb6 (t : Fin cfg0.N) (e : Fin 128) :
    ((cfg0.win 6).blk t).view.emb (ix2 0 e : S1x128.Idx) = (ix2 0 e : S1x128.Idx) := by
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 128 + 1 * e.val = e.val; omega

theorem emb7 (t : Fin cfg0.N) (e : Fin 128) :
    ((cfg0.win 7).blk t).view.emb (ix2 0 e : S1x128.Idx) = (ix2 0 e : S1x128.Idx) := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 128 + 1 * e.val = e.val; omega

theorem emb8 (t : Fin cfg0.N) (e : Fin 128) :
    ((cfg0.win 8).blk t).view.emb (ix2 0 e : S1x128.Idx) = (ix2 0 e : S1x128.Idx) := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 128 + 1 * e.val = e.val; omega

theorem emb9 (t : Fin cfg0.N) (q : Fin 64) (e : Fin 128) :
    ((cfg0.win 9).blk t).view.emb (ix3 0 q e : S1x64x128.Idx) = (ix3 (bb t) ⟨(nn t).val * 64 + q.val, by omega⟩ e : S2x1024x128.Idx) := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 64 + 1 * q.val = t.val % 16 * 64 + q.val; omega
  | ⟨2, _⟩ => show win0_9.index t (2 : Fin 3) * 128 + 1 * e.val = e.val; omega

theorem emb10 (t : Fin cfg0.N) (p : Fin 1920) (e : Fin 128) :
    ((cfg0.win 10).blk t).view.emb (ix3 0 p e : S1x1920x128.Idx) =
      (ix3 (bb t) ⟨(nn t).val * 1920 + p.val, by omega⟩ e : S2x30720x128.Idx) := by
  obtain ⟨e0, e1, e2⟩ := idx10 t
  funext a; apply Fin.ext
  match a with
  | ⟨0, _⟩ => show win0_10.index t (0 : Fin 3) * 1 + 1 * 0 = t.val / 16; omega
  | ⟨1, _⟩ => show win0_10.index t (1 : Fin 3) * 1920 + 1 * p.val = t.val % 16 * 1920 + p.val; omega
  | ⟨2, _⟩ => show win0_10.index t (2 : Fin 3) * 128 + 1 * e.val = e.val; omega

theorem emb11 (t : Fin cfg0.N) (q : Fin 64) (k : Fin 30) :
    ((cfg0.win 11).blk t).view.emb (ix4 0 0 q k : S1x1x64x30.Idx) = (ix4 (bb t) (nn t) q k : S2x16x64x30.Idx) := by
  obtain ⟨e0, e1, e2, e3⟩ := idx11 t
  funext a; apply Fin.ext
  match a with
  | ⟨0, _⟩ => show win0_11.index t (0 : Fin 4) * 1 + 1 * 0 = t.val / 16; omega
  | ⟨1, _⟩ => show win0_11.index t (1 : Fin 4) * 1 + 1 * 0 = t.val % 16; omega
  | ⟨2, _⟩ => show win0_11.index t (2 : Fin 4) * 64 + 1 * q.val = q.val; omega
  | ⟨3, _⟩ => show win0_11.index t (3 : Fin 4) * 30 + 1 * k.val = k.val; omega

/-- The input blocks at an index. -/
theorem blk0 (c : Dev nD) (t : Fin cfg0.N) (j : Fin 1024) (a : Fin 6) (k : Fin 3) :
    (iblk m c 0 t : Vec Ideal S1x18x1024 .f32) (ix3 0 ⟨3 * a.val + k.val, by omega⟩ j) = aX m c (bb t) j a k :=
  (congrArg (V m c main_call0_v1) (emb0 t _ j)).trans (v1_apply m c (bb t) j a k)

theorem blk1 (c : Dev nD) (t : Fin cfg0.N) (q : Fin 64) (a : Fin 6) (k : Fin 3) :
    (iblk m c 1 t : Vec Ideal S1x64x18 .f32) (ix3 0 q ⟨3 * a.val + k.val, by omega⟩) =
      aX m c (bb t) ⟨(nn t).val * 64 + q.val, by omega⟩ a k :=
  (congrArg (V m c main_call0_v0) (emb1 t q _)).trans (v0_apply m c (bb t) _ a k)

theorem blk2 (c : Dev nD) (t : Fin cfg0.N) (q : Fin 64) :
    (iblk m c 2 t : Vec Ideal S1x1x64x1 .i32) (ix4 0 0 q 0) = aT m c (bb t) ⟨(nn t).val * 64 + q.val, by omega⟩ :=
  (congrArg (V m c main_call0_v2) (emb2 t q)).trans (v2_apply m c (bb t) (nn t) q)

theorem blk3 (c : Dev nD) (t : Fin cfg0.N) (f : Fin 850) (e : Fin 128) :
    (iblk m c 3 t : Vec Ideal S850x128 .f32) (ix2 f e) = weight (aWe m c) (aPw m c) (aPb m c) f e :=
  (congrArg (V m c main_call0_v15) (emb3 t f e)).trans (v15_apply m c f e)

theorem blk4 (c : Dev nD) (t : Fin cfg0.N) (f : Fin 3) (e : Fin 128) :
    (iblk m c 4 t : Vec Ideal S3x128 .f32) (ix2 f e) = aWn m c e f :=
  (congrArg (V m c main_call0_v16) (emb4 t f e)).trans (v16_apply m c f e)

theorem blk5 (c : Dev nD) (t : Fin cfg0.N) (e : Fin 128) : (iblk m c 5 t : Vec Ideal S1x128 .f32) (ix2 0 e) = aGn m c e :=
  (congrArg (V m c main_call0_v17) (emb5 t e)).trans (v17_apply m c e)
theorem blk6 (c : Dev nD) (t : Fin cfg0.N) (e : Fin 128) : (iblk m c 6 t : Vec Ideal S1x128 .f32) (ix2 0 e) = aBn m c e :=
  (congrArg (V m c main_call0_v18) (emb6 t e)).trans (v18_apply m c e)
theorem blk7 (c : Dev nD) (t : Fin cfg0.N) (e : Fin 128) : (iblk m c 7 t : Vec Ideal S1x128 .f32) (ix2 0 e) = aGe m c e :=
  (congrArg (V m c main_call0_v19) (emb7 t e)).trans (v19_apply m c e)
theorem blk8 (c : Dev nD) (t : Fin cfg0.N) (e : Fin 128) : (iblk m c 8 t : Vec Ideal S1x128 .f32) (ix2 0 e) = aBe m c e :=
  (congrArg (V m c main_call0_v20) (emb8 t e)).trans (v20_apply m c e)

/-- The three results as functions of the arguments. -/
def G9 (c : Dev nD) : Vec Ideal S2x1024x128 .f32 := fun i => node (aT m c (i 0) (i 1)) (aWn m c) (aGn m c) (aBn m c) (i 2)
def G11 (c : Dev nD) : Vec Ideal S2x16x64x30 .i32 := fun i =>
  BitVec.ofNat 32 (nbr (aX m c (i 0)) ⟨(i 1).val * 64 + (i 2).val, by
    have h1 : (i 1).val < 16 := (i 1).isLt
    have h2 : (i 2).val < 64 := (i 2).isLt
    omega⟩ (i 3)).val
def G10 (c : Dev nD) : Vec Ideal S2x30720x128 .f32 := fun i =>
  edge (aX m c (i 0)) (aWe m c) (aPw m c) (aPb m c) (aGe m c) (aBe m c)
    ⟨(i 1).val / 30, by have h : (i 1).val < 30720 := (i 1).isLt; omega⟩
    (nbr (aX m c (i 0)) ⟨(i 1).val / 30, by have h : (i 1).val < 30720 := (i 1).isLt; omega⟩ ⟨(i 1).val % 30, by omega⟩) (i 2)

/-- What a point writes back to each window's array. -/
theorem flushed9_eq (c : Dev nD) (t : Fin cfg0.N) :
    (dats m 0 c).flushed 9 t = ((cfg0.win 9).blk t).view.read (Elt Ideal) (G9 m c) := by
  rw [flushed9_A, out9]
  funext i
  obtain ⟨z, q, e, rfl⟩ : ∃ (z : Fin 1) (q : Fin 64) (e : Fin 128), i = (ix3 z q e : S1x64x128.Idx) := ⟨i 0, i 1, i 2, eq_ix3 i⟩
  obtain rfl : z = 0 := Subsingleton.elim _ _
  show k0_pay1 (k0_pay122 (iblk m c 2 t) (iblk m c 4 t) (iblk m c 5 t)) (k0_pay123 (iblk m c 6 t)) (ix3 0 q e) =
    G9 m c (((cfg0.win 9).blk t).view.emb (ix3 0 q e : S1x64x128.Idx))
  rw [emb9, node_apply, blk2]
  simp only [blk4, blk5, blk6]
  rfl

theorem flushed11_eq (c : Dev nD) (hX : ∀ b j a k, ∃ r : ℝ, aX m c b j a k = r) (t : Fin cfg0.N) :
    (dats m 0 c).flushed 11 t = ((cfg0.win 11).blk t).view.read (Elt Ideal) (G11 m c) := by
  rw [flushed11_A, out11]
  funext i
  obtain ⟨z, z', q, k, rfl⟩ : ∃ (z : Fin 1) (z' : Fin 1) (q : Fin 64) (k : Fin 30), i = (ix4 z z' q k : S1x1x64x30.Idx) :=
    ⟨i 0, i 1, i 2, i 3, eq_ix4 i⟩
  obtain rfl : z = 0 := Subsingleton.elim _ _
  obtain rfl : z' = 0 := Subsingleton.elim _ _
  show k0_pay11 (nbrs (iblk m c 0 t) (iblk m c 1 t)) (ix4 0 0 q k) =
    G11 m c (((cfg0.win 11).blk t).view.emb (ix4 0 0 q k : S1x1x64x30.Idx))
  rw [emb11, pay11_apply, nbrs_apply (aX m c (bb t)) (hX _) _ (blk0 m c t) (nn t) _ (blk1 m c t)]
  rfl

theorem flushed10_eq (c : Dev nD) (hX : ∀ b j a k, ∃ r : ℝ, aX m c b j a k = r) (t : Fin cfg0.N) :
    (dats m 0 c).flushed 10 t = ((cfg0.win 10).blk t).view.read (Elt Ideal) (G10 m c) := by
  rw [flushed10_A, out10]
  funext i
  obtain ⟨z, p, e, rfl⟩ : ∃ (z : Fin 1) (p : Fin 1920) (e : Fin 128), i = (ix3 z p e : S1x1920x128.Idx) := ⟨i 0, i 1, i 2, eq_ix3 i⟩
  obtain rfl : z = 0 := Subsingleton.elim _ _
  show edgeBlock ((grid0.coords t) 1).val (iblk m c 0 t) (iblk m c 1 t) (iblk m c 3 t) (iblk m c 7 t) (iblk m c 8 t) (ix3 0 p e) =
    G10 m c (((cfg0.win 10).blk t).view.emb (ix3 0 p e : S1x1920x128.Idx))
  rw [emb10, coord1, show t.val % 16 = (nn t).val from rfl,
    edgeBlock_apply (aX m c (bb t)) (hX _) _ (blk0 m c t) (nn t) _ (blk1 m c t)]
  simp only [blk3, blk7, blk8]
  have h1 : ((nn t).val * 1920 + p.val) / 30 = (nn t).val * 64 + p.val / 30 := by omega
  have h2 : ((nn t).val * 1920 + p.val) % 30 = p.val % 30 := by omega
  show _ = edge (aX m c (bb t)) (aWe m c) (aPw m c) (aPb m c) (aGe m c) (aBe m c)
    ⟨((nn t).val * 1920 + p.val) / 30, _⟩ (nbr (aX m c (bb t)) ⟨((nn t).val * 1920 + p.val) / 30, _⟩ ⟨((nn t).val * 1920 + p.val) % 30, _⟩) e
  simp only [h1, h2]
  rfl

/-- Every index of each result array lies in some point's block. -/
theorem covered9 (i : S2x1024x128.Idx) : ∃ t : Fin cfg0.N, (cfg0.win 9).flush t = true ∧ i ∈ ((cfg0.win 9).blk t).view.set := by
  obtain ⟨b, l, e, rfl⟩ : ∃ (b : Fin 2) (l : Fin 1024) (e : Fin 128), i = (ix3 b l e : S2x1024x128.Idx) := ⟨i 0, i 1, i 2, eq_ix3 i⟩
  let t : Fin cfg0.N := ⟨b.val * 16 + l.val / 64, by show _ < 32; omega⟩
  refine ⟨t, flush0_9 _, ?_⟩
  have h := ((cfg0.win 9).blk t).view.emb_mem_set (ix3 0 ⟨l.val % 64, by omega⟩ e : S1x64x128.Idx)
  rw [emb9] at h
  have hb : bb t = b := Fin.ext (by show (b.val * 16 + l.val / 64) / 16 = b.val; omega)
  have hl : (nn t).val * 64 + l.val % 64 = l.val := by show (b.val * 16 + l.val / 64) % 16 * 64 + l.val % 64 = l.val; omega
  simp only [hb, hl] at h
  exact h

theorem covered10 (i : S2x30720x128.Idx) : ∃ t : Fin cfg0.N, (cfg0.win 10).flush t = true ∧ i ∈ ((cfg0.win 10).blk t).view.set := by
  obtain ⟨b, l, e, rfl⟩ : ∃ (b : Fin 2) (l : Fin 30720) (e : Fin 128), i = (ix3 b l e : S2x30720x128.Idx) := ⟨i 0, i 1, i 2, eq_ix3 i⟩
  let t : Fin cfg0.N := ⟨b.val * 16 + l.val / 1920, by show _ < 32; omega⟩
  refine ⟨t, flush0_10 _, ?_⟩
  have h := ((cfg0.win 10).blk t).view.emb_mem_set (ix3 0 ⟨l.val % 1920, by omega⟩ e : S1x1920x128.Idx)
  rw [emb10] at h
  have hb : bb t = b := Fin.ext (by show (b.val * 16 + l.val / 1920) / 16 = b.val; omega)
  have hl : (nn t).val * 1920 + l.val % 1920 = l.val := by show (b.val * 16 + l.val / 1920) % 16 * 1920 + l.val % 1920 = l.val; omega
  simp only [hb, hl] at h
  exact h

theorem covered11 (i : S2x16x64x30.Idx) : ∃ t : Fin cfg0.N, (cfg0.win 11).flush t = true ∧ i ∈ ((cfg0.win 11).blk t).view.set := by
  obtain ⟨b, n, q, k, rfl⟩ : ∃ (b : Fin 2) (n : Fin 16) (q : Fin 64) (k : Fin 30), i = (ix4 b n q k : S2x16x64x30.Idx) :=
    ⟨i 0, i 1, i 2, i 3, eq_ix4 i⟩
  let t : Fin cfg0.N := ⟨b.val * 16 + n.val, by show _ < 32; omega⟩
  refine ⟨t, flush0_11 _, ?_⟩
  have h := ((cfg0.win 11).blk t).view.emb_mem_set (ix4 0 0 q k : S1x1x64x30.Idx)
  rw [emb11] at h
  have hb : bb t = b := Fin.ext (by show (b.val * 16 + n.val) / 16 = b.val; omega)
  have hn : nn t = n := Fin.ext (by show (b.val * 16 + n.val) % 16 = n.val; omega)
  simp only [hb, hn] at h
  exact h

/-- The result arrays after the run. -/
theorem final9 (c : Dev nD) : (dats m 0 c).arrAt 9 cfg0.N = G9 m c :=
  (dats m 0 c).arrAt_eq_of_cover 9 (G9 m c) (fun t _ => flushed9_eq m c t) covered9
theorem final10 (c : Dev nD) (hX : ∀ b j a k, ∃ r : ℝ, aX m c b j a k = r) : (dats m 0 c).arrAt 10 cfg0.N = G10 m c :=
  (dats m 0 c).arrAt_eq_of_cover 10 (G10 m c) (fun t _ => flushed10_eq m c hX t) covered10
theorem final11 (c : Dev nD) (hX : ∀ b j a k, ∃ r : ℝ, aX m c b j a k = r) : (dats m 0 c).arrAt 11 cfg0.N = G11 m c :=
  (dats m 0 c).arrAt_eq_of_cover 11 (G11 m c) (fun t _ => flushed11_eq m c hX t) covered11

end Cert.KArrays
end
-- ==== Proof.Pre.lean ====
/-
  What the precondition says of the arguments, entry by entry.
-/
module

public import proofs.«01_k».proof.Defs
public import proofs.«01_k».proof.Proof.Gen.Pre_as_drawn
public import proofs.«01_k».proof.Proof.Consts

@[expose] public section

set_option maxRecDepth 16384

noncomputable section

namespace Cert.KPre

open Idealize.ShloMosaic Cert.Consts Cert.Pre_as_drawn

/-- The arguments as they are drawn: finite coordinates, every mask one, residues numbered along the flattened batch, one
    chain, every polymer a protein position, and polymer types among the three there are. -/
structure Drawn (x0 : FVec Ideal S2x1024x6x3 .f32) (x1 : FVec Ideal S2x1024 .f32) (x2 x3 : IVec S2x1024 32)
    (x4 : FVec Ideal S2x1024x6 .f32) (x5 x6 x7 : FVec Ideal S2x1024 .f32) (x8 : IVec S2x1024 32) : Prop where
  coords : ∀ b l a k, ∃ r : ℝ, x0 (ix4 b l a k) = (r : EReal)
  mask : ∀ b l, x1 (ix2 b l) = 1
  residue : ∀ (b : Fin 2) (l : Fin 1024), x2 (ix2 b l) = BitVec.ofNat 32 (b.val * 1024 + l.val)
  chain : ∀ b l, x3 (ix2 b l) = 0#32
  atoms : ∀ b l a, x4 (ix3 b l a) = 1
  protein : ∀ b l, x5 (ix2 b l) = 1
  dna : ∀ b l, x6 (ix2 b l) = 0
  rna : ∀ b l, x7 (ix2 b l) = 0
  poly : ∀ b l, x8 (ix2 b l) = 0#32 ∨ x8 (ix2 b l) = 1#32 ∨ x8 (ix2 b l) = 2#32

/-- An extended real whose absolute value is below `⊤` is a real number. -/
theorem real_of_abs_lt (x : EReal) (h : FloatOps.absf (F := Ideal) (φ := .f32) x < (⊤ : EReal)) : ∃ r : ℝ, x = (r : EReal) := by
  induction x with
  | coe r => exact ⟨r, rfl⟩
  | top => exact absurd h (by simp [Ideal.absf_def])
  | bot => exact absurd h (by simp [Ideal.absf_def])

theorem poly_cases (x : BitVec 32) (h : IntOp.andi (IntOp.cmpi .sge x 0#32) (IntOp.cmpi .slt x 3#32) = 1#1) :
    x = 0#32 ∨ x = 1#32 ∨ x = 2#32 := by
  have h1 : (0#32).sle x = true ∧ x.slt 3#32 = true := by
    simp only [IntOp.andi, IntOp.cmpi] at h
    revert h
    cases (0#32).sle x <;> cases x.slt 3#32 <;> decide
  have ha : (0 : Int) ≤ x.toInt := by simpa [BitVec.sle] using h1.1
  have hb : x.toInt < 3 := by simpa [BitVec.slt] using h1.2
  have : x.toInt = 0 ∨ x.toInt = 1 ∨ x.toInt = 2 := by omega
  rcases this with h | h | h
  · exact Or.inl (BitVec.eq_of_toInt_eq (h.trans (by decide)))
  · exact Or.inr (Or.inl (BitVec.eq_of_toInt_eq (h.trans (by decide))))
  · exact Or.inr (Or.inr (BitVec.eq_of_toInt_eq (h.trans (by decide))))

/-- The precondition's function, answered true throughout, says the arguments are as drawn. -/
theorem drawn_of_fn (x0 : FVec Ideal S2x1024x6x3 .f32) (x1 : FVec Ideal S2x1024 .f32) (x2 x3 : IVec S2x1024 32)
    (x4 : FVec Ideal S2x1024x6 .f32) (x5 x6 x7 : FVec Ideal S2x1024 .f32) (x8 : IVec S2x1024 32)
    (x9 : FVec Ideal S128x3 .f32) (x10 : FVec Ideal S128x1040 .f32) (x11 x12 x13 x14 : FVec Ideal S128 .f32)
    (x15 : FVec Ideal S16x66 .f32) (x16 : FVec Ideal S16 .f32)
    (h : Cert.Pre_as_drawn.fn (F := Ideal) x0 x1 x2 x3 x4 x5 x6 x7 x8 x9 x10 x11 x12 x13 x14 x15 x16 =
      (fun _ => 1#1, fun _ => 1#1, fun _ => 1#1, fun _ => 1#1, fun _ => 1#1, fun _ => 1#1, fun _ => 1#1, fun _ => 1#1,
        fun _ => 1#1)) : Drawn x0 x1 x2 x3 x4 x5 x6 x7 x8 := by
  unfold fn fn_part1 at h
  dsimp only at h
  simp only [Prod.mk.injEq] at h
  obtain ⟨h0, h1, h2, h3, h4, h5, h6, h7, h8⟩ := h
  refine ⟨fun b l a k => ?_, fun b l => ?_, fun b l => ?_, fun b l => ?_, fun b l a => ?_, fun b l => ?_, fun b l => ?_,
    fun b l => ?_, fun b l => ?_⟩
  · have := congrFun h0 (ix4 b l a k)
    pointwise at this
    rw [top_lit] at this
    exact real_of_abs_lt _ (ofBool_decide this)
  · have := congrFun h1 (ix2 b l)
    pointwise at this
    exact ofBool_decide this
  · have := congrFun h2 (ix2 b l)
    pointwise at this
    rw [eq_of_cmpi this]
    simp only [IntOp.addi, IntOp.muli]
    rw [← BitVec.ofNat_mul, ← BitVec.ofNat_add]
  · have := congrFun h3 (ix2 b l)
    pointwise at this
    exact eq_of_cmpi this
  · have := congrFun h4 (ix3 b l a)
    pointwise at this
    exact ofBool_decide this
  · have := congrFun h5 (ix2 b l)
    pointwise at this
    exact ofBool_decide this
  · have := congrFun h6 (ix2 b l)
    pointwise at this
    exact ofBool_decide this
  · have := congrFun h7 (ix2 b l)
    pointwise at this
    exact ofBool_decide this
  · have := congrFun h8 (ix2 b l)
    pointwise at this
    exact poly_cases _ this

open Cert.KernelIdeal in
/-- What the precondition on the initial memory says of the arguments it holds. -/
theorem drawn (m : (ℓ : Loc nD τ sig) → Buf (Elt Ideal) ℓ) (h : Cert.Pre_KernelIdeal_as_drawn m) (c : Dev nD) :
    Drawn (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  obtain ⟨h0, h1, h2, h3, h4, h5, h6, h7, h8⟩ := h c
  exact drawn_of_fn _ _ _ _ _ _ _ _ _ _ _ _ _ _ _ _ _
    (Prod.ext h0 (Prod.ext h1 (Prod.ext h2 (Prod.ext h3 (Prod.ext h4 (Prod.ext h5 (Prod.ext h6 (Prod.ext h7 h8))))))))

end Cert.KPre

end
-- ==== Proof.RArrays.lean ====
/-
  The reference's three result arrays are the kernel's, for arguments as the precondition says.
-/
module

public import proofs.«01_k».proof.Proof.REdge
public import proofs.«01_k».proof.Proof.KArrays
public import proofs.«01_k».proof.Proof.Pre

@[expose] public section

set_option maxRecDepth 16384

noncomputable section

namespace Cert.RArrays

open Idealize.ShloMosaic Cert.KernelIdeal Cert.ReferenceIdeal.Read Cert.Spec Cert.KHost Cert.KArrays

variable (m : (ℓ : Loc nD τ sig) → Buf (Elt Ideal) ℓ) (h : Cert.Pre_KernelIdeal_as_drawn m) (c : Dev nD)
include h

/-- The first result, the node rows, is the array that the kernel leaves. -/
theorem ref9 : val_main_v229 (F := Ideal) (m (c.tc.loc main_arg8)) (m (c.tc.loc main_arg9)) (m (c.tc.loc main_arg11)) (m (c.tc.loc main_arg12)) =
    G9 m c := by
  have D := Cert.KPre.drawn m h c
  funext i
  obtain ⟨b, l, e, rfl⟩ : ∃ (b : Fin 2) (l : Fin 1024) (e : Fin 128), i = (ix3 b l e : S2x1024x128.Idx) := ⟨i 0, i 1, i 2, eq_ix3 i⟩
  exact Cert.RNode.v229 _ _ _ _ b l e (D.poly b l)

/-- The neighbor list that the reference sorts out is the one both programs are read with. -/
theorem nbrs (b : Fin 2) (q : Fin 1024) (k : Fin 30) :
    val_main_indices (F := Ideal) (m (c.tc.loc main_arg0)) (m (c.tc.loc main_arg1)) (ix3 b q k) = BitVec.ofNat 32 (nbr (aX m c b) q k).val := by
  have D := Cert.KPre.drawn m h c
  exact Cert.RSel.indices _ _ D.coords D.mask b q k

/-- The second result, the edge rows, is the array that the kernel leaves. -/
theorem ref10 : val_main_v230 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg10))
    (m (c.tc.loc main_arg13)) (m (c.tc.loc main_arg14)) (m (c.tc.loc main_arg15)) (m (c.tc.loc main_arg16)) = G10 m c := by
  have D := Cert.KPre.drawn m h c
  funext i
  obtain ⟨b, n, e, rfl⟩ : ∃ (b : Fin 2) (n : Fin 30720) (e : Fin 128), i = (ix3 b n e : S2x30720x128.Idx) := ⟨i 0, i 1, i 2, eq_ix3 i⟩
  refine (Cert.REdge.v230 _ _ _ _ _ _ _ _ _ _ _ _ _ b n e).trans ?_
  exact Cert.REdge.v202 _ _ _ _ _ _ _ _ _ _ _ _ _ (fun b q k => nbr (aX m c b) q k) (fun b q k => nbrs m h c b q k)
    D.residue D.chain D.atoms D.protein D.dna D.rna b _ _ e

/-- The third result, the neighbor list cut into blocks of rows, is the array that the kernel leaves. -/
theorem ref11 : val_main_v231 (F := Ideal) (m (c.tc.loc main_arg0)) (m (c.tc.loc main_arg1)) = G11 m c := by
  funext i
  refine (Cert.RSel.v231 _ _ i ⟨(i 1).val * 64 + (i 2).val, by
    have h1 : (i 1).val < 16 := (i 1).isLt
    have h2 : (i 2).val < 64 := (i 2).isLt
    omega⟩ rfl).trans ?_
  exact nbrs m h c (i 0) _ (i 3)

end Cert.RArrays
end
-- ==== Proof.lean ====
/-
  The proof of the whole claim: the three frames, the named constants, and the equality of the three results. The value of
  the kernel is in KArrays, that of the reference in RNode, REdge and RSel, both in the words of Spec; RArrays joins them.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_as_drawn
public import proofs.«01_k».proof.Proof.RArrays
public import Idealize.ShloMosaic.Adequacy
public import Idealize.ShloMosaic.Init

@[expose] public section

noncomputable section

namespace Cert.Proof

open Idealize.ShloMosaic Idealize.SL.Sem

/-- The reference terminates, keeps its arguments and leaves every semaphore counter at zero. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Kernel and reference end with the same three arrays. -/
theorem algebraic : Cert.algebraic_KernelIdeal_ReferenceIdeal_pre_as_drawn := by
  intro m g m' g' hpre hag
  have hX := fun c => (Cert.KPre.drawn m hpre c).coords
  refine ⟨fun c => Cert.KArrays.G9 m c, fun c => Cert.KArrays.G10 m c, fun c => Cert.KArrays.G11 m c, ?_, ?_⟩
  · refine (θ_run Cert.KernelIdeal.defs _ _).mono (fun r h c => ?_) (Cert.KernelIdeal.Value.run_blocks (F := Ideal) m g)
    obtain ⟨h9, h10, h11, ha⟩ := h c
    exact ⟨h9.trans (Cert.KArrays.final9 m c), h10.trans (Cert.KArrays.final10 m c (hX c)), h11.trans (Cert.KArrays.final11 m c (hX c)), ha⟩
  · refine (θ_run Cert.ReferenceIdeal.defs _ _).mono (fun r h c => ?_) (Cert.ReferenceIdeal.Value.run (F := Ideal) m' g')
    obtain ⟨a0, a1, a2, a3, a4, a5, a6, a7, a8, a9, a10, a11, a12, a13, a14, a15, a16⟩ := hag c
    obtain ⟨h9, h10, h11, ha⟩ := h c
    have r9 : _ = Cert.ReferenceIdeal.Read.val_main_v229 (F := Ideal) (m' (c.tc.loc Cert.ReferenceIdeal.main_arg8)) (m' (c.tc.loc Cert.ReferenceIdeal.main_arg9)) (m' (c.tc.loc Cert.ReferenceIdeal.main_arg11)) (m' (c.tc.loc Cert.ReferenceIdeal.main_arg12)) :=
      h9.trans (Cert.ReferenceIdeal.Read.val_main_v229_eq (F := Ideal) (StableHlo.launchContents m' c))
    have r10 : _ = Cert.ReferenceIdeal.Read.val_main_v230 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg10)) (m' (c.tc.loc Cert.ReferenceIdeal.main_arg13)) (m' (c.tc.loc Cert.ReferenceIdeal.main_arg14)) (m' (c.tc.loc Cert.ReferenceIdeal.main_arg15)) (m' (c.tc.loc Cert.ReferenceIdeal.main_arg16)) :=
      h10.trans (Cert.ReferenceIdeal.Read.val_main_v230_eq (F := Ideal) (StableHlo.launchContents m' c))
    have r11 : _ = Cert.ReferenceIdeal.Read.val_main_v231 (F := Ideal) (m' (c.tc.loc Cert.ReferenceIdeal.main_arg0)) (m' (c.tc.loc Cert.ReferenceIdeal.main_arg1)) :=
      h11.trans (Cert.ReferenceIdeal.Read.val_main_v231_eq (F := Ideal) (StableHlo.launchContents m' c))
    rw [a8, a9, a11, a12] at r9
    rw [a0, a1, a2, a3, a4, a5, a6, a7, a10, a13, a14, a15, a16] at r10
    rw [a0, a1] at r11
    exact ⟨r9.trans (Cert.RArrays.ref9 m hpre c), r10.trans (Cert.RArrays.ref10 m hpre c), r11.trans (Cert.RArrays.ref11 m hpre c), ha⟩

/-- The five claims together, with the facts that the printed programs state. -/
theorem claim : Cert.Claim := ⟨Cert.Kernel.Gen.facts, Cert.KernelIdeal.Gen.facts, Cert.ReferenceIdeal.Gen.facts, Cert.Pre_as_drawn.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  ⟨IdealRules.named_const.statement Cert.KernelIdeal.κ "mu_step" .f32 0x3FAAAAAB#32 _ rfl,
    IdealRules.named_const.statement Cert.KernelIdeal.κ "inv_sigma" .f32 0x3F4CCCCD#32 _ rfl⟩,
  algebraic⟩

end Cert.Proof

end
